-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_clip_range_KernelIdeal [hPre_in_clip_range_KernelIdeal : Cert.Pre_in_clip_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_clip_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_clip_range_ReferenceIdeal [hPre_in_clip_range_ReferenceIdeal : Cert.Pre_in_clip_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_clip_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_clip_range_KernelIdeal [hKernelIdeal : Cert.KernelIdeal.Facts] [hPre_in_clip_range_KernelIdeal : Cert.Pre_in_clip_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_clip_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_clip_range_ReferenceIdeal [hReferenceIdeal : Cert.ReferenceIdeal.Facts] [hPre_in_clip_range_ReferenceIdeal : Cert.Pre_in_clip_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_clip_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_clip_range_KernelIdeal [hKernelIdeal : Cert.KernelIdeal.Facts] [hReferenceIdeal : Cert.ReferenceIdeal.Facts] [hPre_in_clip_range_KernelIdeal : Cert.Pre_in_clip_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_clip_range_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_clip_range_KernelIdeal : Cert.Pre_in_clip_range_KernelIdeal.Facts) (hPre_in_clip_range_ReferenceIdeal : Cert.Pre_in_clip_range_ReferenceIdeal.Facts),
    quiescent_Kernel (hKernel := hKernel)
    ∧ quiescent_KernelIdeal (hKernelIdeal := hKernelIdeal)
    ∧ quiescent_KernelIdeal_pre_in_clip_range_KernelIdeal (hKernelIdeal := hKernelIdeal) (hPre_in_clip_range_KernelIdeal := hPre_in_clip_range_KernelIdeal)
    ∧ quiescent_ReferenceIdeal (hReferenceIdeal := hReferenceIdeal)
    ∧ quiescent_ReferenceIdeal_pre_in_clip_range_ReferenceIdeal (hReferenceIdeal := hReferenceIdeal) (hPre_in_clip_range_ReferenceIdeal := hPre_in_clip_range_ReferenceIdeal)
    ∧ preserves_Kernel_KernelIdeal
    ∧ algebraic_KernelIdeal_ReferenceIdeal_pre_in_clip_range_KernelIdeal (hKernelIdeal := hKernelIdeal) (hReferenceIdeal := hReferenceIdeal) (hPre_in_clip_range_KernelIdeal := hPre_in_clip_range_KernelIdeal)
-- ==== Pre_in_clip_range_KernelIdeal.lean ====
abbrev S64x2048 : Shape := ⟨2, ![64, 2048]⟩
abbrev S2048x2048 : Shape := ⟨2, ![2048, 2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  dot_S64x2048_S2048x2048_S64x2048_1_0_0_1_n_n_wf : DotDims.WF S64x2048 S2048x2048 S64x2048 [1] [0] [0] [1] [] []

variable [Facts]

def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def fn {F : FTy → Type} [FloatOps F] (main_arg0 : FVec F S64x2048 .bf16) (main_arg1 : FVec F S2048x2048 .bf16) : IVec S_ 1 :=
  let main_v0 : FVec F S64x2048 .f32 := (fun l r => Host.dotGeneral dot_S64x2048_S2048x2048_S64x2048_1_0_0_1_n_n none l r) main_arg0 main_arg1
  let main_cst : FVec F S_ .f32 := constant S_ .f32 0xC2700000#32
  let main_v1 : FVec F S64x2048 .f32 := broadcastInDim S64x2048 ![] bcast_S_S64x2048 main_cst
  let main_v2 : IVec S64x2048 1 := cmpf .oge main_v0 main_v1
  let main_cst_0 : FVec F S_ .f32 := constant S_ .f32 0x42700000#32
  let main_v3 : FVec F S64x2048 .f32 := broadcastInDim S64x2048 ![] bcast_S_S64x2048 main_cst_0
  let main_v4 : IVec S64x2048 1 := cmpf .ole main_v0 main_v3
  let main_v5 : IVec S64x2048 1 := andi main_v2 main_v4
  let main_c : IVec S_ 1 := constantI S_ 1 1#1
  let main_v6 : IVec S_ 1 := (fun x v => Host.reduce IntOp.andi x v reducesTo_S64x2048_S_d0_1 h_S_) main_v5 main_c
  main_v6
-- ==== Pre_in_clip_range_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S_ 1 :=
  let main_v0 : FVec F S2048x2048 .f32 := (fun l r => Host.dotGeneral dot_S2048x2048_S2048x2048_S2048x2048_1_0_0_1_n_n none l r) main_arg0 main_arg1
  let main_cst : FVec F S_ .f32 := constant S_ .f32 0xC2700000#32
  let main_v1 : FVec F S2048x2048 .f32 := broadcastInDim S2048x2048 ![] bcast_S_S2048x2048 main_cst
  let main_v2 : IVec S2048x2048 1 := cmpf .oge main_v0 main_v1
  let main_cst_0 : FVec F S_ .f32 := constant S_ .f32 0x42700000#32
  let main_v3 : FVec F S2048x2048 .f32 := broadcastInDim S2048x2048 ![] bcast_S_S2048x2048 main_cst_0
  let main_v4 : IVec S2048x2048 1 := cmpf .ole main_v0 main_v3
  let main_v5 : IVec S2048x2048 1 := andi main_v2 main_v4
  let main_c : IVec S_ 1 := constantI S_ 1 1#1
  let main_v6 : IVec S_ 1 := (fun x v => Host.reduce IntOp.andi x v reducesTo_S2048x2048_S_d0_1 h_S_) main_v5 main_c
  main_v6
-- ==== Kernel.lean ====
abbrev S64x2048 : Shape := ⟨2, ![64, 2048]⟩
abbrev S2048x2048 : Shape := ⟨2, ![2048, 2048]⟩
abbrev S2048x64 : Shape := ⟨2, ![2048, 64]⟩
abbrev S32x64x64 : Shape := ⟨3, ![32, 64, 64]⟩
abbrev S32 : Shape := ⟨1, ![32]⟩
abbrev S_ : Shape := ⟨0, ![]⟩
abbrev S64x64 : Shape := ⟨2, ![64, 64]⟩
abbrev S1x64x64 : Shape := ⟨3, ![1, 64, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S64x2048, .bf16⟩
  | .hbm, ⟨1, _⟩ => ⟨S2048x2048, .bf16⟩
  | .hbm, ⟨2, _⟩ => ⟨S2048x64, .bf16⟩
  | .local _ .vmem, ⟨0, _⟩ => ⟨S64x2048, .bf16⟩
  | .local _ .vmem, ⟨1, _⟩ => ⟨S2048x2048, .bf16⟩
  | .local _ .vmem, ⟨2, _⟩ => ⟨S2048x64, .bf16⟩
  | .local _ .vmem, ⟨3, _⟩ => ⟨S32x64x64, .bf16⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 1 := Scalar.cmpi .sge v4 c32_i32_1
  let c32_i32_2 : BitVec 32 := 32#32
  let v6 : BitVec 32 := Scalar.subi v4 c32_i32_2
  let v7 : BitVec 32 := Scalar.select v5 v6 v4
  let c1_i32_4 : BitVec 32 := 1#32
  let v8 : BitVec 32 := Scalar.muli v7 c1_i32_4
  let v9 : BitVec 32 := Scalar.addi c0_i32 v8
  v9.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 32 := Scalar.addi v2 c2_i32
  let c32_i32_5 : BitVec 32 := 32#32
  let v11 : BitVec 1 := Scalar.cmpi .sge v10 c32_i32_5
  let c32_i32_6 : BitVec 32 := 32#32
  let v12 : BitVec 32 := Scalar.subi v10 c32_i32_6
  let v13 : BitVec 32 := Scalar.select v11 v12 v10
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v16 : BitVec 32 := Scalar.addi v2 c3_i32
  let c32_i32_10 : BitVec 32 := 32#32
  let v17 : BitVec 1 := Scalar.cmpi .sge v16 c32_i32_10
  let c32_i32_11 : BitVec 32 := 32#32
  let v18 : BitVec 32 := Scalar.subi v16 c32_i32_11
  let v19 : BitVec 32 := Scalar.select v17 v18 v16
  let c1_i32_13 : BitVec 32 := 1#32
  let v20 : BitVec 32 := Scalar.muli v19 c1_i32_13
  let v21 : BitVec 32 := Scalar.addi c0_i32_14 v20
  v21.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v22 : BitVec 32 := Scalar.addi v2 c4_i32
  let c32_i32_15 : BitVec 32 := 32#32
  let v23 : BitVec 1 := Scalar.cmpi .sge v22 c32_i32_15
  let c32_i32_16 : BitVec 32 := 32#32
  let v24 : BitVec 32 := Scalar.subi v22 c32_i32_16
  let v25 : BitVec 32 := Scalar.select v23 v24 v22
  let c1_i32_18 : BitVec 32 := 1#32
  let v26 : BitVec 32 := Scalar.muli v25 c1_i32_18
  let v27 : BitVec 32 := Scalar.addi c0_i32_19 v26
  v27.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v28 : BitVec 32 := Scalar.addi v2 c5_i32
  let c32_i32_20 : BitVec 32 := 32#32
  let v29 : BitVec 1 := Scalar.cmpi .sge v28 c32_i32_20
  let c32_i32_21 : BitVec 32 := 32#32
  let v30 : BitVec 32 := Scalar.subi v28 c32_i32_21
  let v31 : BitVec 32 := Scalar.select v29 v30 v28
  let c1_i32_23 : BitVec 32 := 1#32
  let v32 : BitVec 32 := Scalar.muli v31 c1_i32_23
  let v33 : BitVec 32 := Scalar.addi c0_i32_24 v32
  v33.toNat
def k0_dev6 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v34 : BitVec 32 := Scalar.addi v2 c6_i32
  let c32_i32_25 : BitVec 32 := 32#32
  let v35 : BitVec 1 := Scalar.cmpi .sge v34 c32_i32_25
  let c32_i32_26 : BitVec 32 := 32#32
  let v36 : BitVec 32 := Scalar.subi v34 c32_i32_26
  let v37 : BitVec 32 := Scalar.select v35 v36 v34
  let c1_i32_28 : BitVec 32 := 1#32
  let v38 : BitVec 32 := Scalar.muli v37 c1_i32_28
  let v39 : BitVec 32 := Scalar.addi c0_i32_29 v38
  v39.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v40 : BitVec 32 := Scalar.addi v2 c7_i32
  let c32_i32_30 : BitVec 32 := 32#32
  let v41 : BitVec 1 := Scalar.cmpi .sge v40 c32_i32_30
  let c32_i32_31 : BitVec 32 := 32#32
  let v42 : BitVec 32 := Scalar.subi v40 c32_i32_31
  let v43 : BitVec 32 := Scalar.select v41 v42 v40
  let c1_i32_33 : BitVec 32 := 1#32
  let v44 : BitVec 32 := Scalar.muli v43 c1_i32_33
  let v45 : BitVec 32 := Scalar.addi c0_i32_34 v44
  v45.toNat
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v46 : BitVec 32 := Scalar.addi v2 c8_i32
  let c32_i32_35 : BitVec 32 := 32#32
  let v47 : BitVec 1 := Scalar.cmpi .sge v46 c32_i32_35
  let c32_i32_36 : BitVec 32 := 32#32
  let v48 : BitVec 32 := Scalar.subi v46 c32_i32_36
  let v49 : BitVec 32 := Scalar.select v47 v48 v46
  let c1_i32_38 : BitVec 32 := 1#32
  let v50 : BitVec 32 := Scalar.muli v49 c1_i32_38
  let v51 : BitVec 32 := Scalar.addi c0_i32_39 v50
  v51.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v52 : BitVec 32 := Scalar.addi v2 c9_i32
  let c32_i32_40 : BitVec 32 := 32#32
  let v53 : BitVec 1 := Scalar.cmpi .sge v52 c32_i32_40
  let c32_i32_41 : BitVec 32 := 32#32
  let v54 : BitVec 32 := Scalar.subi v52 c32_i32_41
  let v55 : BitVec 32 := Scalar.select v53 v54 v52
  let c1_i32_43 : BitVec 32 := 1#32
  let v56 : BitVec 32 := Scalar.muli v55 c1_i32_43
  let v57 : BitVec 32 := Scalar.addi c0_i32_44 v56
  v57.toNat
def k0_dev10 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v58 : BitVec 32 := Scalar.addi v2 c10_i32
  let c32_i32_45 : BitVec 32 := 32#32
  let v59 : BitVec 1 := Scalar.cmpi .sge v58 c32_i32_45
  let c32_i32_46 : BitVec 32 := 32#32
  let v60 : BitVec 32 := Scalar.subi v58 c32_i32_46
  let v61 : BitVec 32 := Scalar.select v59 v60 v58
  let c1_i32_48 : BitVec 32 := 1#32
  let v62 : BitVec 32 := Scalar.muli v61 c1_i32_48
  let v63 : BitVec 32 := Scalar.addi c0_i32_49 v62
  v63.toNat
def k0_dev11 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v64 : BitVec 32 := Scalar.addi v2 c11_i32
  let c32_i32_50 : BitVec 32 := 32#32
  let v65 : BitVec 1 := Scalar.cmpi .sge v64 c32_i32_50
  let c32_i32_51 : BitVec 32 := 32#32
  let v66 : BitVec 32 := Scalar.subi v64 c32_i32_51
  let v67 : BitVec 32 := Scalar.select v65 v66 v64
  let c1_i32_53 : BitVec 32 := 1#32
  let v68 : BitVec 32 := Scalar.muli v67 c1_i32_53
  let v69 : BitVec 32 := Scalar.addi c0_i32_54 v68
  v69.toNat
def k0_dev12 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v70 : BitVec 32 := Scalar.addi v2 c12_i32
  let c32_i32_55 : BitVec 32 := 32#32
  let v71 : BitVec 1 := Scalar.cmpi .sge v70 c32_i32_55
  let c32_i32_56 : BitVec 32 := 32#32
  let v72 : BitVec 32 := Scalar.subi v70 c32_i32_56
  let v73 : BitVec 32 := Scalar.select v71 v72 v70
  let c1_i32_58 : BitVec 32 := 1#32
  let v74 : BitVec 32 := Scalar.muli v73 c1_i32_58
  let v75 : BitVec 32 := Scalar.addi c0_i32_59 v74
  v75.toNat
def k0_dev13 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v76 : BitVec 32 := Scalar.addi v2 c13_i32
  let c32_i32_60 : BitVec 32 := 32#32
  let v77 : BitVec 1 := Scalar.cmpi .sge v76 c32_i32_60
  let c32_i32_61 : BitVec 32 := 32#32
  let v78 : BitVec 32 := Scalar.subi v76 c32_i32_61
  let v79 : BitVec 32 := Scalar.select v77 v78 v76
  let c1_i32_63 : BitVec 32 := 1#32
  let v80 : BitVec 32 := Scalar.muli v79 c1_i32_63
  let v81 : BitVec 32 := Scalar.addi c0_i32_64 v80
  v81.toNat
def k0_dev14 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v82 : BitVec 32 := Scalar.addi v2 c14_i32
  let c32_i32_65 : BitVec 32 := 32#32
  let v83 : BitVec 1 := Scalar.cmpi .sge v82 c32_i32_65
  let c32_i32_66 : BitVec 32 := 32#32
  let v84 : BitVec 32 := Scalar.subi v82 c32_i32_66
  let v85 : BitVec 32 := Scalar.select v83 v84 v82
  let c1_i32_68 : BitVec 32 := 1#32
  let v86 : BitVec 32 := Scalar.muli v85 c1_i32_68
  let v87 : BitVec 32 := Scalar.addi c0_i32_69 v86
  v87.toNat
def k0_dev15 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v88 : BitVec 32 := Scalar.addi v2 c15_i32
  let c32_i32_70 : BitVec 32 := 32#32
  let v89 : BitVec 1 := Scalar.cmpi .sge v88 c32_i32_70
  let c32_i32_71 : BitVec 32 := 32#32
  let v90 : BitVec 32 := Scalar.subi v88 c32_i32_71
  let v91 : BitVec 32 := Scalar.select v89 v90 v88
  let c1_i32_73 : BitVec 32 := 1#32
  let v92 : BitVec 32 := Scalar.muli v91 c1_i32_73
  let v93 : BitVec 32 := Scalar.addi c0_i32_74 v92
  v93.toNat
def k0_dev16 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v94 : BitVec 32 := Scalar.addi v2 c16_i32
  let c32_i32_75 : BitVec 32 := 32#32
  let v95 : BitVec 1 := Scalar.cmpi .sge v94 c32_i32_75
  let c32_i32_76 : BitVec 32 := 32#32
  let v96 : BitVec 32 := Scalar.subi v94 c32_i32_76
  let v97 : BitVec 32 := Scalar.select v95 v96 v94
  let c1_i32_78 : BitVec 32 := 1#32
  let v98 : BitVec 32 := Scalar.muli v97 c1_i32_78
  let v99 : BitVec 32 := Scalar.addi c0_i32_79 v98
  v99.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v100 : BitVec 32 := Scalar.addi v2 c17_i32
  let c32_i32_80 : BitVec 32 := 32#32
  let v101 : BitVec 1 := Scalar.cmpi .sge v100 c32_i32_80
  let c32_i32_81 : BitVec 32 := 32#32
  let v102 : BitVec 32 := Scalar.subi v100 c32_i32_81
  let v103 : BitVec 32 := Scalar.select v101 v102 v100
  let c1_i32_83 : BitVec 32 := 1#32
  let v104 : BitVec 32 := Scalar.muli v103 c1_i32_83
  let v105 : BitVec 32 := Scalar.addi c0_i32_84 v104
  v105.toNat
def k0_dev18 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v106 : BitVec 32 := Scalar.addi v2 c18_i32
  let c32_i32_85 : BitVec 32 := 32#32
  let v107 : BitVec 1 := Scalar.cmpi .sge v106 c32_i32_85
  let c32_i32_86 : BitVec 32 := 32#32
  let v108 : BitVec 32 := Scalar.subi v106 c32_i32_86
  let v109 : BitVec 32 := Scalar.select v107 v108 v106
  let c1_i32_88 : BitVec 32 := 1#32
  let v110 : BitVec 32 := Scalar.muli v109 c1_i32_88
  let v111 : BitVec 32 := Scalar.addi c0_i32_89 v110
  v111.toNat
def k0_dev19 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v112 : BitVec 32 := Scalar.addi v2 c19_i32
  let c32_i32_90 : BitVec 32 := 32#32
  let v113 : BitVec 1 := Scalar.cmpi .sge v112 c32_i32_90
  let c32_i32_91 : BitVec 32 := 32#32
  let v114 : BitVec 32 := Scalar.subi v112 c32_i32_91
  let v115 : BitVec 32 := Scalar.select v113 v114 v112
  let c1_i32_93 : BitVec 32 := 1#32
  let v116 : BitVec 32 := Scalar.muli v115 c1_i32_93
  let v117 : BitVec 32 := Scalar.addi c0_i32_94 v116
  v117.toNat
def k0_dev20 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v118 : BitVec 32 := Scalar.addi v2 c20_i32
  let c32_i32_95 : BitVec 32 := 32#32
  let v119 : BitVec 1 := Scalar.cmpi .sge v118 c32_i32_95
  let c32_i32_96 : BitVec 32 := 32#32
  let v120 : BitVec 32 := Scalar.subi v118 c32_i32_96
  let v121 : BitVec 32 := Scalar.select v119 v120 v118
  let c1_i32_98 : BitVec 32 := 1#32
  let v122 : BitVec 32 := Scalar.muli v121 c1_i32_98
  let v123 : BitVec 32 := Scalar.addi c0_i32_99 v122
  v123.toNat
def k0_dev21 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v124 : BitVec 32 := Scalar.addi v2 c21_i32
  let c32_i32_100 : BitVec 32 := 32#32
  let v125 : BitVec 1 := Scalar.cmpi .sge v124 c32_i32_100
  let c32_i32_101 : BitVec 32 := 32#32
  let v126 : BitVec 32 := Scalar.subi v124 c32_i32_101
  let v127 : BitVec 32 := Scalar.select v125 v126 v124
  let c1_i32_103 : BitVec 32 := 1#32
  let v128 : BitVec 32 := Scalar.muli v127 c1_i32_103
  let v129 : BitVec 32 := Scalar.addi c0_i32_104 v128
  v129.toNat
def k0_dev22 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v130 : BitVec 32 := Scalar.addi v2 c22_i32
  let c32_i32_105 : BitVec 32 := 32#32
  let v131 : BitVec 1 := Scalar.cmpi .sge v130 c32_i32_105
  let c32_i32_106 : BitVec 32 := 32#32
  let v132 : BitVec 32 := Scalar.subi v130 c32_i32_106
  let v133 : BitVec 32 := Scalar.select v131 v132 v130
  let c1_i32_108 : BitVec 32 := 1#32
  let v134 : BitVec 32 := Scalar.muli v133 c1_i32_108
  let v135 : BitVec 32 := Scalar.addi c0_i32_109 v134
  v135.toNat
def k0_dev23 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v136 : BitVec 32 := Scalar.addi v2 c23_i32
  let c32_i32_110 : BitVec 32 := 32#32
  let v137 : BitVec 1 := Scalar.cmpi .sge v136 c32_i32_110
  let c32_i32_111 : BitVec 32 := 32#32
  let v138 : BitVec 32 := Scalar.subi v136 c32_i32_111
  let v139 : BitVec 32 := Scalar.select v137 v138 v136
  let c1_i32_113 : BitVec 32 := 1#32
  let v140 : BitVec 32 := Scalar.muli v139 c1_i32_113
  let v141 : BitVec 32 := Scalar.addi c0_i32_114 v140
  v141.toNat
def k0_dev24 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v142 : BitVec 32 := Scalar.addi v2 c24_i32
  let c32_i32_115 : BitVec 32 := 32#32
  let v143 : BitVec 1 := Scalar.cmpi .sge v142 c32_i32_115
  let c32_i32_116 : BitVec 32 := 32#32
  let v144 : BitVec 32 := Scalar.subi v142 c32_i32_116
  let v145 : BitVec 32 := Scalar.select v143 v144 v142
  let c1_i32_118 : BitVec 32 := 1#32
  let v146 : BitVec 32 := Scalar.muli v145 c1_i32_118
  let v147 : BitVec 32 := Scalar.addi c0_i32_119 v146
  v147.toNat
def k0_dev25 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v148 : BitVec 32 := Scalar.addi v2 c25_i32
  let c32_i32_120 : BitVec 32 := 32#32
  let v149 : BitVec 1 := Scalar.cmpi .sge v148 c32_i32_120
  let c32_i32_121 : BitVec 32 := 32#32
  let v150 : BitVec 32 := Scalar.subi v148 c32_i32_121
  let v151 : BitVec 32 := Scalar.select v149 v150 v148
  let c1_i32_123 : BitVec 32 := 1#32
  let v152 : BitVec 32 := Scalar.muli v151 c1_i32_123
  let v153 : BitVec 32 := Scalar.addi c0_i32_124 v152
  v153.toNat
def k0_dev26 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v154 : BitVec 32 := Scalar.addi v2 c26_i32
  let c32_i32_125 : BitVec 32 := 32#32
  let v155 : BitVec 1 := Scalar.cmpi .sge v154 c32_i32_125
  let c32_i32_126 : BitVec 32 := 32#32
  let v156 : BitVec 32 := Scalar.subi v154 c32_i32_126
  let v157 : BitVec 32 := Scalar.select v155 v156 v154
  let c1_i32_128 : BitVec 32 := 1#32
  let v158 : BitVec 32 := Scalar.muli v157 c1_i32_128
  let v159 : BitVec 32 := Scalar.addi c0_i32_129 v158
  v159.toNat
def k0_dev27 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v160 : BitVec 32 := Scalar.addi v2 c27_i32
  let c32_i32_130 : BitVec 32 := 32#32
  let v161 : BitVec 1 := Scalar.cmpi .sge v160 c32_i32_130
  let c32_i32_131 : BitVec 32 := 32#32
  let v162 : BitVec 32 := Scalar.subi v160 c32_i32_131
  let v163 : BitVec 32 := Scalar.select v161 v162 v160
  let c1_i32_133 : BitVec 32 := 1#32
  let v164 : BitVec 32 := Scalar.muli v163 c1_i32_133
  let v165 : BitVec 32 := Scalar.addi c0_i32_134 v164
  v165.toNat
def k0_dev28 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v166 : BitVec 32 := Scalar.addi v2 c28_i32
  let c32_i32_135 : BitVec 32 := 32#32
  let v167 : BitVec 1 := Scalar.cmpi .sge v166 c32_i32_135
  let c32_i32_136 : BitVec 32 := 32#32
  let v168 : BitVec 32 := Scalar.subi v166 c32_i32_136
  let v169 : BitVec 32 := Scalar.select v167 v168 v166
  let c1_i32_138 : BitVec 32 := 1#32
  let v170 : BitVec 32 := Scalar.muli v169 c1_i32_138
  let v171 : BitVec 32 := Scalar.addi c0_i32_139 v170
  v171.toNat
def k0_dev29 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v172 : BitVec 32 := Scalar.addi v2 c29_i32
  let c32_i32_140 : BitVec 32 := 32#32
  let v173 : BitVec 1 := Scalar.cmpi .sge v172 c32_i32_140
  let c32_i32_141 : BitVec 32 := 32#32
  let v174 : BitVec 32 := Scalar.subi v172 c32_i32_141
  let v175 : BitVec 32 := Scalar.select v173 v174 v172
  let c1_i32_143 : BitVec 32 := 1#32
  let v176 : BitVec 32 := Scalar.muli v175 c1_i32_143
  let v177 : BitVec 32 := Scalar.addi c0_i32_144 v176
  v177.toNat
def k0_dev30 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v178 : BitVec 32 := Scalar.addi v2 c30_i32
  let c32_i32_145 : BitVec 32 := 32#32
  let v179 : BitVec 1 := Scalar.cmpi .sge v178 c32_i32_145
  let c32_i32_146 : BitVec 32 := 32#32
  let v180 : BitVec 32 := Scalar.subi v178 c32_i32_146
  let v181 : BitVec 32 := Scalar.select v179 v180 v178
  let c1_i32_148 : BitVec 32 := 1#32
  let v182 : BitVec 32 := Scalar.muli v181 c1_i32_148
  let v183 : BitVec 32 := Scalar.addi c0_i32_149 v182
  v183.toNat
def k0_dev31 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v184 : BitVec 32 := Scalar.addi v2 c31_i32
  let c32_i32_150 : BitVec 32 := 32#32
  let v185 : BitVec 1 := Scalar.cmpi .sge v184 c32_i32_150
  let c32_i32_151 : BitVec 32 := 32#32
  let v186 : BitVec 32 := Scalar.subi v184 c32_i32_151
  let v187 : BitVec 32 := Scalar.select v185 v186 v184
  let c1_i32_153 : BitVec 32 := 1#32
  let v188 : BitVec 32 := Scalar.muli v187 c1_i32_153
  let v189 : BitVec 32 := Scalar.addi c0_i32_154 v188
  v189.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v326 : BitVec 32 := Scalar.muli v2 c64_i32
  let c0_i32_228 : BitVec 32 := 0#32
  ![v326.toNat, 0]
def k0_off2 (d0 : Dev nD) (c1_i32_0 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4 : BitVec 32 := Scalar.addi v2 c1_i32_0
  let c32_i32_1 : BitVec 32 := 32#32
  let v5 : BitVec 1 := Scalar.cmpi .sge v4 c32_i32_1
  let c32_i32_2 : BitVec 32 := 32#32
  let v6 : BitVec 32 := Scalar.subi v4 c32_i32_2
  let v7 : BitVec 32 := Scalar.select v5 v6 v4
  let c0_i32_229 : BitVec 32 := 0#32
  let c0_i32_230 : BitVec 32 := 0#32
  ![v7.toNat, 0, 0]
def k0_dev32 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 1 := Scalar.cmpi .sge v4 c32_i32_1
  let c32_i32_2 : BitVec 32 := 32#32
  let v6 : BitVec 32 := Scalar.subi v4 c32_i32_2
  let v7 : BitVec 32 := Scalar.select v5 v6 v4
  let c1_i32_226 : BitVec 32 := 1#32
  let v327 : BitVec 32 := Scalar.muli v7 c1_i32_226
  let v328 : BitVec 32 := Scalar.addi c0_i32_227 v327
  v328.toNat
def k0_dev33 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 32 := Scalar.addi v2 c2_i32
  let c32_i32_5 : BitVec 32 := 32#32
  let v11 : BitVec 1 := Scalar.cmpi .sge v10 c32_i32_5
  let c32_i32_6 : BitVec 32 := 32#32
  let v12 : BitVec 32 := Scalar.subi v10 c32_i32_6
  let v13 : BitVec 32 := Scalar.select v11 v12 v10
  let c1_i32_233 : BitVec 32 := 1#32
  let v336 : BitVec 32 := Scalar.muli v13 c1_i32_233
  let v337 : BitVec 32 := Scalar.addi c0_i32_234 v336
  v337.toNat
def k0_dev34 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v16 : BitVec 32 := Scalar.addi v2 c3_i32
  let c32_i32_10 : BitVec 32 := 32#32
  let v17 : BitVec 1 := Scalar.cmpi .sge v16 c32_i32_10
  let c32_i32_11 : BitVec 32 := 32#32
  let v18 : BitVec 32 := Scalar.subi v16 c32_i32_11
  let v19 : BitVec 32 := Scalar.select v17 v18 v16
  let c1_i32_240 : BitVec 32 := 1#32
  let v345 : BitVec 32 := Scalar.muli v19 c1_i32_240
  let v346 : BitVec 32 := Scalar.addi c0_i32_241 v345
  v346.toNat
def k0_dev35 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v22 : BitVec 32 := Scalar.addi v2 c4_i32
  let c32_i32_15 : BitVec 32 := 32#32
  let v23 : BitVec 1 := Scalar.cmpi .sge v22 c32_i32_15
  let c32_i32_16 : BitVec 32 := 32#32
  let v24 : BitVec 32 := Scalar.subi v22 c32_i32_16
  let v25 : BitVec 32 := Scalar.select v23 v24 v22
  let c1_i32_247 : BitVec 32 := 1#32
  let v354 : BitVec 32 := Scalar.muli v25 c1_i32_247
  let v355 : BitVec 32 := Scalar.addi c0_i32_248 v354
  v355.toNat
def k0_dev36 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v28 : BitVec 32 := Scalar.addi v2 c5_i32
  let c32_i32_20 : BitVec 32 := 32#32
  let v29 : BitVec 1 := Scalar.cmpi .sge v28 c32_i32_20
  let c32_i32_21 : BitVec 32 := 32#32
  let v30 : BitVec 32 := Scalar.subi v28 c32_i32_21
  let v31 : BitVec 32 := Scalar.select v29 v30 v28
  let c1_i32_254 : BitVec 32 := 1#32
  let v363 : BitVec 32 := Scalar.muli v31 c1_i32_254
  let v364 : BitVec 32 := Scalar.addi c0_i32_255 v363
  v364.toNat
def k0_dev37 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v34 : BitVec 32 := Scalar.addi v2 c6_i32
  let c32_i32_25 : BitVec 32 := 32#32
  let v35 : BitVec 1 := Scalar.cmpi .sge v34 c32_i32_25
  let c32_i32_26 : BitVec 32 := 32#32
  let v36 : BitVec 32 := Scalar.subi v34 c32_i32_26
  let v37 : BitVec 32 := Scalar.select v35 v36 v34
  let c1_i32_261 : BitVec 32 := 1#32
  let v372 : BitVec 32 := Scalar.muli v37 c1_i32_261
  let v373 : BitVec 32 := Scalar.addi c0_i32_262 v372
  v373.toNat
def k0_dev38 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v40 : BitVec 32 := Scalar.addi v2 c7_i32
  let c32_i32_30 : BitVec 32 := 32#32
  let v41 : BitVec 1 := Scalar.cmpi .sge v40 c32_i32_30
  let c32_i32_31 : BitVec 32 := 32#32
  let v42 : BitVec 32 := Scalar.subi v40 c32_i32_31
  let v43 : BitVec 32 := Scalar.select v41 v42 v40
  let c1_i32_268 : BitVec 32 := 1#32
  let v381 : BitVec 32 := Scalar.muli v43 c1_i32_268
  let v382 : BitVec 32 := Scalar.addi c0_i32_269 v381
  v382.toNat
def k0_dev39 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v46 : BitVec 32 := Scalar.addi v2 c8_i32
  let c32_i32_35 : BitVec 32 := 32#32
  let v47 : BitVec 1 := Scalar.cmpi .sge v46 c32_i32_35
  let c32_i32_36 : BitVec 32 := 32#32
  let v48 : BitVec 32 := Scalar.subi v46 c32_i32_36
  let v49 : BitVec 32 := Scalar.select v47 v48 v46
  let c1_i32_275 : BitVec 32 := 1#32
  let v390 : BitVec 32 := Scalar.muli v49 c1_i32_275
  let v391 : BitVec 32 := Scalar.addi c0_i32_276 v390
  v391.toNat
def k0_dev40 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v52 : BitVec 32 := Scalar.addi v2 c9_i32
  let c32_i32_40 : BitVec 32 := 32#32
  let v53 : BitVec 1 := Scalar.cmpi .sge v52 c32_i32_40
  let c32_i32_41 : BitVec 32 := 32#32
  let v54 : BitVec 32 := Scalar.subi v52 c32_i32_41
  let v55 : BitVec 32 := Scalar.select v53 v54 v52
  let c1_i32_282 : BitVec 32 := 1#32
  let v399 : BitVec 32 := Scalar.muli v55 c1_i32_282
  let v400 : BitVec 32 := Scalar.addi c0_i32_283 v399
  v400.toNat
def k0_dev41 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v58 : BitVec 32 := Scalar.addi v2 c10_i32
  let c32_i32_45 : BitVec 32 := 32#32
  let v59 : BitVec 1 := Scalar.cmpi .sge v58 c32_i32_45
  let c32_i32_46 : BitVec 32 := 32#32
  let v60 : BitVec 32 := Scalar.subi v58 c32_i32_46
  let v61 : BitVec 32 := Scalar.select v59 v60 v58
  let c1_i32_289 : BitVec 32 := 1#32
  let v408 : BitVec 32 := Scalar.muli v61 c1_i32_289
  let v409 : BitVec 32 := Scalar.addi c0_i32_290 v408
  v409.toNat
def k0_dev42 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v64 : BitVec 32 := Scalar.addi v2 c11_i32
  let c32_i32_50 : BitVec 32 := 32#32
  let v65 : BitVec 1 := Scalar.cmpi .sge v64 c32_i32_50
  let c32_i32_51 : BitVec 32 := 32#32
  let v66 : BitVec 32 := Scalar.subi v64 c32_i32_51
  let v67 : BitVec 32 := Scalar.select v65 v66 v64
  let c1_i32_296 : BitVec 32 := 1#32
  let v417 : BitVec 32 := Scalar.muli v67 c1_i32_296
  let v418 : BitVec 32 := Scalar.addi c0_i32_297 v417
  v418.toNat
def k0_dev43 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v70 : BitVec 32 := Scalar.addi v2 c12_i32
  let c32_i32_55 : BitVec 32 := 32#32
  let v71 : BitVec 1 := Scalar.cmpi .sge v70 c32_i32_55
  let c32_i32_56 : BitVec 32 := 32#32
  let v72 : BitVec 32 := Scalar.subi v70 c32_i32_56
  let v73 : BitVec 32 := Scalar.select v71 v72 v70
  let c1_i32_303 : BitVec 32 := 1#32
  let v426 : BitVec 32 := Scalar.muli v73 c1_i32_303
  let v427 : BitVec 32 := Scalar.addi c0_i32_304 v426
  v427.toNat
def k0_dev44 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v76 : BitVec 32 := Scalar.addi v2 c13_i32
  let c32_i32_60 : BitVec 32 := 32#32
  let v77 : BitVec 1 := Scalar.cmpi .sge v76 c32_i32_60
  let c32_i32_61 : BitVec 32 := 32#32
  let v78 : BitVec 32 := Scalar.subi v76 c32_i32_61
  let v79 : BitVec 32 := Scalar.select v77 v78 v76
  let c1_i32_310 : BitVec 32 := 1#32
  let v435 : BitVec 32 := Scalar.muli v79 c1_i32_310
  let v436 : BitVec 32 := Scalar.addi c0_i32_311 v435
  v436.toNat
def k0_dev45 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v82 : BitVec 32 := Scalar.addi v2 c14_i32
  let c32_i32_65 : BitVec 32 := 32#32
  let v83 : BitVec 1 := Scalar.cmpi .sge v82 c32_i32_65
  let c32_i32_66 : BitVec 32 := 32#32
  let v84 : BitVec 32 := Scalar.subi v82 c32_i32_66
  let v85 : BitVec 32 := Scalar.select v83 v84 v82
  let c1_i32_317 : BitVec 32 := 1#32
  let v444 : BitVec 32 := Scalar.muli v85 c1_i32_317
  let v445 : BitVec 32 := Scalar.addi c0_i32_318 v444
  v445.toNat
def k0_dev46 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v88 : BitVec 32 := Scalar.addi v2 c15_i32
  let c32_i32_70 : BitVec 32 := 32#32
  let v89 : BitVec 1 := Scalar.cmpi .sge v88 c32_i32_70
  let c32_i32_71 : BitVec 32 := 32#32
  let v90 : BitVec 32 := Scalar.subi v88 c32_i32_71
  let v91 : BitVec 32 := Scalar.select v89 v90 v88
  let c1_i32_324 : BitVec 32 := 1#32
  let v453 : BitVec 32 := Scalar.muli v91 c1_i32_324
  let v454 : BitVec 32 := Scalar.addi c0_i32_325 v453
  v454.toNat
def k0_dev47 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v94 : BitVec 32 := Scalar.addi v2 c16_i32
  let c32_i32_75 : BitVec 32 := 32#32
  let v95 : BitVec 1 := Scalar.cmpi .sge v94 c32_i32_75
  let c32_i32_76 : BitVec 32 := 32#32
  let v96 : BitVec 32 := Scalar.subi v94 c32_i32_76
  let v97 : BitVec 32 := Scalar.select v95 v96 v94
  let c1_i32_331 : BitVec 32 := 1#32
  let v462 : BitVec 32 := Scalar.muli v97 c1_i32_331
  let v463 : BitVec 32 := Scalar.addi c0_i32_332 v462
  v463.toNat
def k0_dev48 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v100 : BitVec 32 := Scalar.addi v2 c17_i32
  let c32_i32_80 : BitVec 32 := 32#32
  let v101 : BitVec 1 := Scalar.cmpi .sge v100 c32_i32_80
  let c32_i32_81 : BitVec 32 := 32#32
  let v102 : BitVec 32 := Scalar.subi v100 c32_i32_81
  let v103 : BitVec 32 := Scalar.select v101 v102 v100
  let c1_i32_338 : BitVec 32 := 1#32
  let v471 : BitVec 32 := Scalar.muli v103 c1_i32_338
  let v472 : BitVec 32 := Scalar.addi c0_i32_339 v471
  v472.toNat
def k0_dev49 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v106 : BitVec 32 := Scalar.addi v2 c18_i32
  let c32_i32_85 : BitVec 32 := 32#32
  let v107 : BitVec 1 := Scalar.cmpi .sge v106 c32_i32_85
  let c32_i32_86 : BitVec 32 := 32#32
  let v108 : BitVec 32 := Scalar.subi v106 c32_i32_86
  let v109 : BitVec 32 := Scalar.select v107 v108 v106
  let c1_i32_345 : BitVec 32 := 1#32
  let v480 : BitVec 32 := Scalar.muli v109 c1_i32_345
  let v481 : BitVec 32 := Scalar.addi c0_i32_346 v480
  v481.toNat
def k0_dev50 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v112 : BitVec 32 := Scalar.addi v2 c19_i32
  let c32_i32_90 : BitVec 32 := 32#32
  let v113 : BitVec 1 := Scalar.cmpi .sge v112 c32_i32_90
  let c32_i32_91 : BitVec 32 := 32#32
  let v114 : BitVec 32 := Scalar.subi v112 c32_i32_91
  let v115 : BitVec 32 := Scalar.select v113 v114 v112
  let c1_i32_352 : BitVec 32 := 1#32
  let v489 : BitVec 32 := Scalar.muli v115 c1_i32_352
  let v490 : BitVec 32 := Scalar.addi c0_i32_353 v489
  v490.toNat
def k0_dev51 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v118 : BitVec 32 := Scalar.addi v2 c20_i32
  let c32_i32_95 : BitVec 32 := 32#32
  let v119 : BitVec 1 := Scalar.cmpi .sge v118 c32_i32_95
  let c32_i32_96 : BitVec 32 := 32#32
  let v120 : BitVec 32 := Scalar.subi v118 c32_i32_96
  let v121 : BitVec 32 := Scalar.select v119 v120 v118
  let c1_i32_359 : BitVec 32 := 1#32
  let v498 : BitVec 32 := Scalar.muli v121 c1_i32_359
  let v499 : BitVec 32 := Scalar.addi c0_i32_360 v498
  v499.toNat
def k0_dev52 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v124 : BitVec 32 := Scalar.addi v2 c21_i32
  let c32_i32_100 : BitVec 32 := 32#32
  let v125 : BitVec 1 := Scalar.cmpi .sge v124 c32_i32_100
  let c32_i32_101 : BitVec 32 := 32#32
  let v126 : BitVec 32 := Scalar.subi v124 c32_i32_101
  let v127 : BitVec 32 := Scalar.select v125 v126 v124
  let c1_i32_366 : BitVec 32 := 1#32
  let v507 : BitVec 32 := Scalar.muli v127 c1_i32_366
  let v508 : BitVec 32 := Scalar.addi c0_i32_367 v507
  v508.toNat
def k0_dev53 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v130 : BitVec 32 := Scalar.addi v2 c22_i32
  let c32_i32_105 : BitVec 32 := 32#32
  let v131 : BitVec 1 := Scalar.cmpi .sge v130 c32_i32_105
  let c32_i32_106 : BitVec 32 := 32#32
  let v132 : BitVec 32 := Scalar.subi v130 c32_i32_106
  let v133 : BitVec 32 := Scalar.select v131 v132 v130
  let c1_i32_373 : BitVec 32 := 1#32
  let v516 : BitVec 32 := Scalar.muli v133 c1_i32_373
  let v517 : BitVec 32 := Scalar.addi c0_i32_374 v516
  v517.toNat
def k0_dev54 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v136 : BitVec 32 := Scalar.addi v2 c23_i32
  let c32_i32_110 : BitVec 32 := 32#32
  let v137 : BitVec 1 := Scalar.cmpi .sge v136 c32_i32_110
  let c32_i32_111 : BitVec 32 := 32#32
  let v138 : BitVec 32 := Scalar.subi v136 c32_i32_111
  let v139 : BitVec 32 := Scalar.select v137 v138 v136
  let c1_i32_380 : BitVec 32 := 1#32
  let v525 : BitVec 32 := Scalar.muli v139 c1_i32_380
  let v526 : BitVec 32 := Scalar.addi c0_i32_381 v525
  v526.toNat
def k0_dev55 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v142 : BitVec 32 := Scalar.addi v2 c24_i32
  let c32_i32_115 : BitVec 32 := 32#32
  let v143 : BitVec 1 := Scalar.cmpi .sge v142 c32_i32_115
  let c32_i32_116 : BitVec 32 := 32#32
  let v144 : BitVec 32 := Scalar.subi v142 c32_i32_116
  let v145 : BitVec 32 := Scalar.select v143 v144 v142
  let c1_i32_387 : BitVec 32 := 1#32
  let v534 : BitVec 32 := Scalar.muli v145 c1_i32_387
  let v535 : BitVec 32 := Scalar.addi c0_i32_388 v534
  v535.toNat
def k0_dev56 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v148 : BitVec 32 := Scalar.addi v2 c25_i32
  let c32_i32_120 : BitVec 32 := 32#32
  let v149 : BitVec 1 := Scalar.cmpi .sge v148 c32_i32_120
  let c32_i32_121 : BitVec 32 := 32#32
  let v150 : BitVec 32 := Scalar.subi v148 c32_i32_121
  let v151 : BitVec 32 := Scalar.select v149 v150 v148
  let c1_i32_394 : BitVec 32 := 1#32
  let v543 : BitVec 32 := Scalar.muli v151 c1_i32_394
  let v544 : BitVec 32 := Scalar.addi c0_i32_395 v543
  v544.toNat
def k0_dev57 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v154 : BitVec 32 := Scalar.addi v2 c26_i32
  let c32_i32_125 : BitVec 32 := 32#32
  let v155 : BitVec 1 := Scalar.cmpi .sge v154 c32_i32_125
  let c32_i32_126 : BitVec 32 := 32#32
  let v156 : BitVec 32 := Scalar.subi v154 c32_i32_126
  let v157 : BitVec 32 := Scalar.select v155 v156 v154
  let c1_i32_401 : BitVec 32 := 1#32
  let v552 : BitVec 32 := Scalar.muli v157 c1_i32_401
  let v553 : BitVec 32 := Scalar.addi c0_i32_402 v552
  v553.toNat
def k0_dev58 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v160 : BitVec 32 := Scalar.addi v2 c27_i32
  let c32_i32_130 : BitVec 32 := 32#32
  let v161 : BitVec 1 := Scalar.cmpi .sge v160 c32_i32_130
  let c32_i32_131 : BitVec 32 := 32#32
  let v162 : BitVec 32 := Scalar.subi v160 c32_i32_131
  let v163 : BitVec 32 := Scalar.select v161 v162 v160
  let c1_i32_408 : BitVec 32 := 1#32
  let v561 : BitVec 32 := Scalar.muli v163 c1_i32_408
  let v562 : BitVec 32 := Scalar.addi c0_i32_409 v561
  v562.toNat
def k0_dev59 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v166 : BitVec 32 := Scalar.addi v2 c28_i32
  let c32_i32_135 : BitVec 32 := 32#32
  let v167 : BitVec 1 := Scalar.cmpi .sge v166 c32_i32_135
  let c32_i32_136 : BitVec 32 := 32#32
  let v168 : BitVec 32 := Scalar.subi v166 c32_i32_136
  let v169 : BitVec 32 := Scalar.select v167 v168 v166
  let c1_i32_415 : BitVec 32 := 1#32
  let v570 : BitVec 32 := Scalar.muli v169 c1_i32_415
  let v571 : BitVec 32 := Scalar.addi c0_i32_416 v570
  v571.toNat
def k0_dev60 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v172 : BitVec 32 := Scalar.addi v2 c29_i32
  let c32_i32_140 : BitVec 32 := 32#32
  let v173 : BitVec 1 := Scalar.cmpi .sge v172 c32_i32_140
  let c32_i32_141 : BitVec 32 := 32#32
  let v174 : BitVec 32 := Scalar.subi v172 c32_i32_141
  let v175 : BitVec 32 := Scalar.select v173 v174 v172
  let c1_i32_422 : BitVec 32 := 1#32
  let v579 : BitVec 32 := Scalar.muli v175 c1_i32_422
  let v580 : BitVec 32 := Scalar.addi c0_i32_423 v579
  v580.toNat
def k0_dev61 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v178 : BitVec 32 := Scalar.addi v2 c30_i32
  let c32_i32_145 : BitVec 32 := 32#32
  let v179 : BitVec 1 := Scalar.cmpi .sge v178 c32_i32_145
  let c32_i32_146 : BitVec 32 := 32#32
  let v180 : BitVec 32 := Scalar.subi v178 c32_i32_146
  let v181 : BitVec 32 := Scalar.select v179 v180 v178
  let c1_i32_429 : BitVec 32 := 1#32
  let v588 : BitVec 32 := Scalar.muli v181 c1_i32_429
  let v589 : BitVec 32 := Scalar.addi c0_i32_430 v588
  v589.toNat
def k0_dev62 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v184 : BitVec 32 := Scalar.addi v2 c31_i32
  let c32_i32_150 : BitVec 32 := 32#32
  let v185 : BitVec 1 := Scalar.cmpi .sge v184 c32_i32_150
  let c32_i32_151 : BitVec 32 := 32#32
  let v186 : BitVec 32 := Scalar.subi v184 c32_i32_151
  let v187 : BitVec 32 := Scalar.select v185 v186 v184
  let c1_i32_436 : BitVec 32 := 1#32
  let v597 : BitVec 32 := Scalar.muli v187 c1_i32_436
  let v598 : BitVec 32 := Scalar.addi c0_i32_437 v597
  v598.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v606 : Index := Scalar.indexCast v2
  let c0_441 : Index := 0#32
  let c0_442 : Index := 0#32
  ![v606.toNat, 0, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v326 : BitVec 32 := Scalar.muli v2 c64_i32
  let v609 : Index := Scalar.indexCast v326
  let c0_443 : Index := 0#32
  ![v609.toNat, 0]
abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proof.Cells.lean ====
/-
# The all-to-all: devices, cells, pieces of the buffers, contents

Device `c` (of 32) multiplies its 64 rows of `x` by `w`, applies the epilogue, and lays the product in `y_tiles` as 32
tiles of 64 columns. Tile `p` belongs in rows `[64 c, 64 c + 64)` of device `p`'s result. The transfer with number `d`
(`d = 1 … 31`) takes tile `c + d` to device `c + d`, on send semaphore `d` of device `c` and receive semaphore `d` of
device `c + d`; the tile with number `c` is copied by the device itself.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueIdx
public import Idealize.ShloMosaic.Lib.ValueLayout
public import Idealize.ShloMosaic.Lib.Tactic

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the pipeline's own protocol, and of the all-to-all's, whose duties are named by `Fin 32`. -/
abbrev UB : Type := URounds (GSem nD τ sig) (Fin 32)
/-- All the resources. -/
abbrev UU : Type := UR sig nD τ × UB

local notation "𝕄" => MT nD τ sig Unit (Elt F) ℕ UU ℕ

/-- Where the pipeline's resources lie among them, -/
abbrev EP : Emb (UR sig nD τ) (MT nD τ sig Unit (Elt F) ℕ UU ℕ) := embL
/-- and where the all-to-all's. -/
abbrev ER : Emb UB (MT nD τ sig Unit (Elt F) ℕ UU ℕ) := embR

/-! ## Cells -/

/-- The runtime's barrier semaphore. -/
abbrev barS : Sem sig := (SemArray.scalar (sig.barrier 0 rfl) : Sems sig S_).sem
/-- Send semaphore `d`: entry `d` of the first semaphore array. -/
abbrev sendS (d : Fin 32) : DmaSem sig := ⟨3 + d.val, by have h : sig.nDmaSem = 67 := rfl; omega⟩
/-- Receive semaphore `d`: entry `d` of the second. -/
abbrev recvS (d : Fin 32) : DmaSem sig := ⟨35 + d.val, by have h : sig.nDmaSem = 67 := rfl; omega⟩

/-- Device `c`'s barrier cell, -/
abbrev barCell (c : Dev nD) : GSem nD τ sig := ((c : Thread nD τ), .reg barS)
/-- its send cell `d`, -/
abbrev sendCell (c : Dev nD) (d : Fin 32) : GSem nD τ sig := ((c : Thread nD τ), .dma (sendS d))
/-- and its receive cell `d`. -/
abbrev recvCell (c : Dev nD) (d : Fin 32) : GSem nD τ sig := ((c : Thread nD τ), .dma (recvS d))

/-- The kernel's own semaphores: the two arrays. -/
abbrev osem : Fin 32 ⊕ Fin 32 → SemLoc sig := fun | .inl d => .dma (sendS d) | .inr d => .dma (recvS d)
/-- Those and the barrier. -/
abbrev CI : Type := Unit ⊕ (Fin 32 ⊕ Fin 32)
/-- The semaphore an index names, -/
abbrev csem : CI → SemLoc sig := fun | .inl _ => .reg barS | .inr j => osem j
/-- and the cell of a device and an index. -/
abbrev kcell (ck : Dev nD × CI) : GSem nD τ sig := ((ck.1 : Thread nD τ), csem ck.2)

/-- The credit of one tile. -/
abbrev N : ℕ := (cc0_stg2_0 : Ref sig .tc).dmaCredit S64x64 .bf16
/-- It is positive. -/
theorem N_pos : 0 < N := sig.dmaCredit_pos _ _ _ _ _ (by decide)

/-! ## Pieces of the buffers -/

/-- Tile `p` of `y_tiles`. -/
def tileSet (p : Fin 32) : Finset S32x64x64.Idx := Finset.univ.filter fun i => (i (0 : Fin 3)).val = p.val
/-- Rows `[64 p, 64 p + 64)` of the result. -/
def rowSet (p : Fin 32) : Finset S2048x64.Idx := Finset.univ.filter fun i => (i (0 : Fin 2)).val / 64 = p.val

/-- Two tiles share no element; -/
theorem tileSet_disjoint (p p' : Fin 32) (h : p ≠ p') : Disjoint (tileSet p) (tileSet p') :=
  Finset.disjoint_filter.mpr fun i _ h1 h2 => h (Fin.ext (h1.symm.trans h2))
/-- nor do two row blocks. -/
theorem rowSet_disjoint (p p' : Fin 32) (h : p ≠ p') : Disjoint (rowSet p) (rowSet p') :=
  Finset.disjoint_filter.mpr fun i _ h1 h2 => h (Fin.ext (h1.symm.trans h2))
/-- Every element is of some tile, -/
theorem tileSet_cover (i : S32x64x64.Idx) : ∃ p, i ∈ tileSet p :=
  ⟨⟨(i (0 : Fin 3)).val, (i (0 : Fin 3)).isLt⟩, Finset.mem_filter.mpr ⟨Finset.mem_univ _, rfl⟩⟩
/-- and of some row block. -/
theorem rowSet_cover (i : S2048x64.Idx) : ∃ p, i ∈ rowSet p := by
  have h : (i (0 : Fin 2)).val < 2048 := (i (0 : Fin 2)).isLt
  exact ⟨⟨(i (0 : Fin 2)).val / 64, by omega⟩, Finset.mem_filter.mpr ⟨Finset.mem_univ _, rfl⟩⟩

omit [FloatOps F] in
/-- A buffer whole is its pieces, where these are disjoint and cover it. -/
theorem pieces_split (ℓ : Loc nD τ sig) (K : Fin 32 → Finset (Idx ℓ)) (hd : ∀ p p', p ≠ p' → Disjoint (K p) (K p'))
    (hc : ∀ i, ∃ p, i ∈ K p) (f : Buf (Elt F) ℓ) :
    (ℓ ↦{fullShare} f : sProp 𝕄) = bigSep Finset.univ fun p => ℓ ↦[K p]{fullShare} f := by
  have hu : Finset.univ.biUnion K = Finset.univ := by
    ext i
    exact ⟨fun _ => Finset.mem_univ _, fun _ => (hc i).elim fun p hp => Finset.mem_biUnion.mpr ⟨p, Finset.mem_univ _, hp⟩⟩
  rw [← pointsTo_biUnion Finset.univ K fun p _ p' _ h => hd p p' h, hu]

/-- Tile `p` of device `c`'s `y_tiles`, held at contents `f`. -/
def tilePts (c : Dev nD) (p : Fin 32) (f : S32x64x64.Idx → Elt F .bf16) : sProp 𝕄 :=
  ((c : Thread nD τ).loc cc0_scratch0) ↦[tileSet p]{fullShare} f
/-- Row block `p` of device `c`'s result, held at contents `f`. -/
def rowPts (c : Dev nD) (p : Fin 32) (f : S2048x64.Idx → Elt F .bf16) : sProp 𝕄 :=
  ((c : Thread nD τ).loc cc0_stg2_0) ↦[rowSet p]{fullShare} f

omit [FloatOps F] in
instance tilePts_storable (c : Dev nD) (p f) : BI.Storable (upEmb : UEmb _ 𝕄) (tilePts (F := F) c p f) := by unfold tilePts; infer_instance
omit [FloatOps F] in
instance rowPts_storable (c : Dev nD) (p f) : BI.Storable (upEmb : UEmb _ 𝕄) (rowPts (F := F) c p f) := by unfold rowPts; infer_instance

omit [FloatOps F] in
/-- `y_tiles` whole is its 32 tiles. -/
theorem tiles_split (c : Dev nD) (f : S32x64x64.Idx → Elt F .bf16) :
    (((c : Thread nD τ).loc cc0_scratch0) ↦{fullShare} f : sProp 𝕄) = bigSep Finset.univ fun p => tilePts c p f := by
  exact pieces_split ((c : Thread nD τ).loc cc0_scratch0) tileSet tileSet_disjoint tileSet_cover f
omit [FloatOps F] in
/-- The result whole is its 32 row blocks. -/
theorem rows_split (c : Dev nD) (f : S2048x64.Idx → Elt F .bf16) :
    (((c : Thread nD τ).loc cc0_stg2_0) ↦{fullShare} f : sProp 𝕄) = bigSep Finset.univ fun p => rowPts c p f := by
  exact pieces_split ((c : Thread nD τ).loc cc0_stg2_0) rowSet rowSet_disjoint rowSet_cover f

/-! ## Contents -/

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- Device `c`'s rows of `x`, as staged. -/
def xstg (c : Dev nD) : Vec F S64x2048 .bf16 := (win0_0.blk (0 : Fin 1)).view.read (Elt F) ((s₀ m ρ).mem ((c : Thread nD τ).loc main_arg0))
/-- Device `c`'s `w`, as staged. -/
def wstg (c : Dev nD) : Vec F S2048x2048 .bf16 := (win0_1.blk (0 : Fin 1)).view.read (Elt F) ((s₀ m ρ).mem ((c : Thread nD τ).loc main_arg1))
/-- Device `c`'s rows of the product, after the epilogue. -/
def ybf (c : Dev nD) : FVec F S64x2048 .bf16 := k0_pay2 (k0_pay1 (xstg m ρ c) (wstg m ρ c))

/-- Entry `(p, r, q)` of the tiles of `v`: column `64 p + q` of its row `r`. -/
def tilesOf (v : FVec F S64x2048 .bf16) : S32x64x64.Idx → Elt F .bf16 := fun i =>
  v (ix2 ⟨(i (1 : Fin 3)).val, (i (1 : Fin 3)).isLt⟩
    ⟨64 * (i (0 : Fin 3)).val + (i (2 : Fin 3)).val, by
      have h0 : (i (0 : Fin 3)).val < 32 := (i (0 : Fin 3)).isLt
      have h2 : (i (2 : Fin 3)).val < 64 := (i (2 : Fin 3)).isLt
      omega⟩)

/-- The tiles device `c` computes. -/
def tilesAt (c : Dev nD) : S32x64x64.Idx → Elt F .bf16 := tilesOf (ybf m ρ c)

/-- Device `e`'s result: row `i` is row `i % 64` of device `i / 64`'s product, column `q` its column `64 e + q`. -/
def outAt (e : Dev nD) : S2048x64.Idx → Elt F .bf16 := fun i =>
  ybf m ρ ⟨(i (0 : Fin 2)).val / 64, by have h : (i (0 : Fin 2)).val < 2048 := (i (0 : Fin 2)).isLt; show _ < 32; omega⟩
    (ix2 ⟨(i (0 : Fin 2)).val % 64, Nat.mod_lt _ (by decide)⟩
      ⟨64 * e.val + (i (1 : Fin 2)).val, by
        have h0 : e.val < 32 := e.isLt
        have h2 : (i (1 : Fin 2)).val < 64 := (i (1 : Fin 2)).isLt
        omega⟩)

end Cert.A2A

end
-- ==== Proof.Sched.lean ====
/-
# The all-to-all: the schedule of its cells

Every cell has one round.

* The barrier cell of device `c`: 31 duties, one per `d ≠ 0`, of one unit each. Duty `d` is paid by device `c + d` and
  hands device `c` row block `c` of device `c + d`'s result — where `c`'s transfer `d` lands. Device `c` waits for all 31.
* Send cell `d ≠ 0` of device `c`: one duty, paid when device `c`'s transfer `d` has left: tile `c + d` comes back, with
  the contents computed.
* Receive cell `d ≠ 0` of device `c`: one duty, paid by device `c - d`'s transfer `d`: row block `c - d` of device `c`'s
  result, holding its part of the result.
* Send and receive cells `0` have no duty.

A device waits on its barrier owing the receive cells' credit only, and on its send and receive cells owing nothing.
-/
module

public import proofs.«01_k».proof.Proof.Cells

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What duty `d` of device `c`'s barrier hands over: row block `c` of device `c + d`'s result. -/
def barPay (c : Dev nD) (d : Fin 32) : sProp 𝕄 := iprop(∃ f, rowPts (c + d) c f)
/-- What comes back when device `c`'s transfer `d` has left: its tile `c + d`. -/
def sendPay (c : Dev nD) (d : Fin 32) : sProp 𝕄 := tilePts c (c + d) (tilesAt m ρ c)
/-- What device `c`'s receive cell `d` hands over: row block `c - d` of its result, filled. -/
def recvPay (c : Dev nD) (d : Fin 32) : sProp 𝕄 := rowPts c (c - d) (outAt m ρ c)

/-- The duties of a DMA cell, by the semaphore's number. -/
def dmaDuties (q : ℕ) : Finset (Fin 32) := if 3 < q ∧ q ≠ 35 then {0} else ∅
/-- The payload of a DMA cell of device `c`, by the semaphore's number. -/
def dmaPay (c : Dev nD) (q : ℕ) : sProp 𝕄 :=
  if h : q < 3 then iprop(emp) else if h : q < 35 then sendPay m ρ c ⟨q - 3, by omega⟩
    else if h : q < 67 then recvPay m ρ c ⟨q - 35, by omega⟩ else iprop(emp)

/-- The schedule: each cell has one round. Duty `e` of a barrier is one unit; the duty of a send or receive cell is a
tile. -/
def sched : Rounds.Schedule (GSem nD τ sig) (Fin 32) 𝕄 where
  duties g r := if r = 0 ∧ g.1.2 = .tc then (match g.2 with | .reg _ => Finset.univ.erase 0 | .dma q => dmaDuties q.val) else ∅
  unitless _ := False
  amount g _ _ := match g.2 with | .reg _ => 1 | .dma _ => N
  payload g _ d := match g.2 with | .reg _ => barPay g.1.1 d | .dma q => dmaPay m ρ g.1.1 q.val
  amount_pos g _ _ _ := match g.2 with | .reg _ => Nat.one_pos | .dma _ => N_pos

omit [FloatOps F] in
/-- The payloads may be stored in an invariant. -/
instance barPay_storable (c : Dev nD) (d) : BI.Storable (upEmb : UEmb _ 𝕄) (barPay (F := F) c d) := by unfold barPay; infer_instance
/-- The same of a DMA cell, -/
instance dmaPay_storable (c : Dev nD) (q) : BI.Storable (upEmb : UEmb _ 𝕄) (dmaPay (F := F) m ρ c q) := by
  unfold dmaPay sendPay recvPay; (repeat' split) <;> infer_instance
/-- and of every cell. -/
instance sched_payload_storable (g : GSem nD τ sig) (r : ℕ) (d : Fin 32) :
    BI.Storable (upEmb : UEmb _ 𝕄) ((sched (F := F) m ρ).payload g r d) := by
  obtain ⟨t, (s | q)⟩ := g
  · exact barPay_storable t.1 d
  · exact dmaPay_storable m ρ t.1 q.val

section Sched
variable (c : Dev nD) (d : Fin 32)

/-- The duties of a barrier are `1, …, 31`; -/
theorem duties_bar : (sched (F := F) m ρ).duties (barCell c) 0 = Finset.univ.erase 0 := rfl
/-- those of a DMA cell are by its number; -/
theorem duties_dma (q : DmaSem sig) : (sched (F := F) m ρ).duties ((c : Thread nD τ), .dma q) 0 = dmaDuties q.val := rfl
/-- no cell has a second round. -/
theorem duties_later (g : GSem nD τ sig) (r : ℕ) (hr : 1 ≤ r) : (sched (F := F) m ρ).duties g r = ∅ := by
  show (if r = 0 ∧ g.1.2 = .tc then _ else ∅) = ∅
  exact if_neg fun h => by omega
/-- A send cell used has one duty, -/
theorem duties_send (hd : d ≠ 0) : (sched (F := F) m ρ).duties (sendCell c d) 0 = {0} := by
  have h : d.val ≠ 0 := fun h => hd (Fin.ext h)
  have hl := d.isLt
  rw [show sendCell c d = ((c : Thread nD τ), .dma (sendS d)) from rfl, duties_dma]
  show dmaDuties (3 + d.val) = _
  exact if_pos ⟨by omega, by omega⟩
/-- as has a receive cell; -/
theorem duties_recv (hd : d ≠ 0) : (sched (F := F) m ρ).duties (recvCell c d) 0 = {0} := by
  have h : d.val ≠ 0 := fun h => hd (Fin.ext h)
  have hl := d.isLt
  rw [show recvCell c d = ((c : Thread nD τ), .dma (recvS d)) from rfl, duties_dma]
  show dmaDuties (35 + d.val) = _
  exact if_pos ⟨by omega, by omega⟩
/-- send cell 0 has none, -/
theorem duties_send_zero (r : ℕ) (_ : 0 ≤ r) : (sched (F := F) m ρ).duties (sendCell c 0) r = ∅ := by
  rcases Nat.eq_zero_or_pos r with rfl | h
  · exact (duties_dma m ρ c (sendS 0)).trans (by decide)
  · exact duties_later m ρ _ r h
/-- nor has receive cell 0. -/
theorem duties_recv_zero (r : ℕ) (_ : 0 ≤ r) : (sched (F := F) m ρ).duties (recvCell c 0) r = ∅ := by
  rcases Nat.eq_zero_or_pos r with rfl | h
  · exact (duties_dma m ρ c (recvS 0)).trans (by decide)
  · exact duties_later m ρ _ r h

/-- A duty of a barrier is one unit, -/
theorem amount_bar (e : Fin 32) : (sched (F := F) m ρ).amount (barCell c) 0 e = 1 := rfl
/-- that of a send cell a tile, -/
theorem amount_send (e : Fin 32) : (sched (F := F) m ρ).amount (sendCell c d) 0 e = N := rfl
/-- that of a receive cell a tile. -/
theorem amount_recv (e : Fin 32) : (sched (F := F) m ρ).amount (recvCell c d) 0 e = N := rfl

/-- A barrier is waited for 31 units, -/
theorem expect_bar : (sched (F := F) m ρ).expect (barCell c) 0 = 31 := by
  unfold Schedule.expect Schedule.amountOf
  rw [duties_bar, Finset.sum_congr rfl fun e _ => amount_bar m ρ c e, Finset.sum_const]; rfl
/-- a send cell for a tile, -/
theorem expect_send (hd : d ≠ 0) : (sched (F := F) m ρ).expect (sendCell c d) 0 = N := by
  unfold Schedule.expect Schedule.amountOf; rw [duties_send m ρ c d hd, Finset.sum_singleton, amount_send]
/-- a receive cell for a tile. -/
theorem expect_recv (hd : d ≠ 0) : (sched (F := F) m ρ).expect (recvCell c d) 0 = N := by
  unfold Schedule.expect Schedule.amountOf; rw [duties_recv m ρ c d hd, Finset.sum_singleton, amount_recv]

/-- What a duty of a barrier hands over; -/
theorem payload_bar (e : Fin 32) : (sched (F := F) m ρ).payload (barCell c) 0 e = barPay c e := rfl
/-- what that of a DMA cell does, by its number; -/
theorem payload_dma (q : DmaSem sig) (e : Fin 32) :
    (sched (F := F) m ρ).payload ((c : Thread nD τ), .dma q) 0 e = dmaPay m ρ c q.val := rfl
/-- at the number of a send cell, -/
theorem dmaPay_send : dmaPay (F := F) m ρ c (3 + d.val) = sendPay m ρ c d := by
  have hl := d.isLt
  unfold dmaPay
  rw [dif_neg (by omega), dif_pos (by omega)]
  exact congrArg (sendPay m ρ c) (Fin.ext (Nat.add_sub_cancel_left 3 d.val))
/-- at that of a receive cell. -/
theorem dmaPay_recv : dmaPay (F := F) m ρ c (35 + d.val) = recvPay m ρ c d := by
  have hl := d.isLt
  unfold dmaPay
  rw [dif_neg (by omega), dif_neg (by omega), dif_pos (by omega)]
  exact congrArg (recvPay m ρ c) (Fin.ext (Nat.add_sub_cancel_left 35 d.val))
/-- What a send cell hands over, -/
theorem payload_send (e : Fin 32) : (sched (F := F) m ρ).payload (sendCell c d) 0 e = sendPay m ρ c d :=
  (payload_dma m ρ c (sendS d) e).trans (dmaPay_send m ρ c d)
/-- and a receive cell. -/
theorem payload_recv (e : Fin 32) : (sched (F := F) m ρ).payload (recvCell c d) 0 e = recvPay m ρ c d :=
  (payload_dma m ρ c (recvS d) e).trans (dmaPay_recv m ρ c d)

/-- All that a barrier hands over, -/
theorem rest_bar : bigSep ((sched (F := F) m ρ).duties (barCell c) 0 \ ∅) (fun e => (sched (F := F) m ρ).payload (barCell c) 0 e)
    = bigSep (Finset.univ.erase 0) fun e => barPay c e := by
  rw [Finset.sdiff_empty, duties_bar]; rfl
/-- all that a send cell does, -/
theorem rest_send (hd : d ≠ 0) : bigSep ((sched (F := F) m ρ).duties (sendCell c d) 0 \ ∅) (fun e => (sched (F := F) m ρ).payload (sendCell c d) 0 e)
    = sendPay m ρ c d := by
  rw [Finset.sdiff_empty, duties_send m ρ c d hd, bigSep_singleton, payload_send]
/-- all that a receive cell does. -/
theorem rest_recv (hd : d ≠ 0) : bigSep ((sched (F := F) m ρ).duties (recvCell c d) 0 \ ∅) (fun e => (sched (F := F) m ρ).payload (recvCell c d) 0 e)
    = recvPay m ρ c d := by
  rw [Finset.sdiff_empty, duties_recv m ρ c d hd, bigSep_singleton, payload_recv]

end Sched

/-! ## What each device owes; the levels -/

/-- The steps `1, …, 31` still to come after step `i`, and those done. -/
def pend (i : ℕ) : Finset (Fin 32) := Finset.univ.filter fun d => i < d.val
/-- The steps done after step `i`. -/
def done (i : ℕ) : Finset (Fin 32) := Finset.univ.filter fun d => 0 < d.val ∧ d.val ≤ i

/-- Before the first step all are to come, -/
theorem pend_zero : pend 0 = Finset.univ.erase 0 := by decide
/-- and none is done; -/
theorem done_zero : done 0 = ∅ := by decide
/-- after the last all are done, -/
theorem done_last : done 31 = Finset.univ.erase 0 := by decide
/-- and none is to come. -/
theorem pend_last : pend 31 = ∅ := by decide
/-- A step takes its number from those to come, -/
theorem pend_step {i : ℕ} {d : Fin 32} (h : d.val = i + 1) : pend i = insert d (pend (i + 1)) := by
  ext e; simp only [pend, Finset.mem_insert, Finset.mem_filter, Finset.mem_univ, true_and, Fin.ext_iff]; omega
/-- where it is not afterwards, -/
theorem not_mem_pend {i : ℕ} {d : Fin 32} (h : d.val = i + 1) : d ∉ pend (i + 1) := by
  simp only [pend, Finset.mem_filter, Finset.mem_univ, true_and]; omega
/-- and puts it to those done, -/
theorem done_step {i : ℕ} {d : Fin 32} (h : d.val = i + 1) : done (i + 1) = insert d (done i) := by
  ext e; simp only [done, Finset.mem_insert, Finset.mem_filter, Finset.mem_univ, true_and, Fin.ext_iff]; omega
/-- where it was not before. -/
theorem not_mem_done {i : ℕ} {d : Fin 32} (h : d.val = i + 1) : d ∉ done i := by
  simp only [done, Finset.mem_filter, Finset.mem_univ, true_and]; omega
/-- No step has number 0. -/
theorem ne_zero_of_step {i : ℕ} {d : Fin 32} (h : d.val = i + 1) : d ≠ 0 := fun h0 => by
  rw [h0] at h; exact absurd h (by show ¬ 0 = i + 1; omega)

/-- What device `c` owes the receive cells its transfers in `S` land on, and the barriers its signals in `S` reach. -/
def recvDues (c : Dev nD) (S : Finset (Fin 32)) : CellTallies nD τ sig Unit := ∑ d ∈ S, tallyAt (recvCell (c + d) d) () N
/-- What it owes the barriers its signals in `S` reach. -/
def barDues (c : Dev nD) (S : Finset (Fin 32)) : CellTallies nD τ sig Unit := ∑ d ∈ S, tallyAt (barCell (c + d)) () 1
/-- What it owes at launch. -/
def O₀ (c : Dev nD) : CellTallies nD τ sig Unit := recvDues c (pend 0) + barDues c (pend 0)

/-- The obligations are on TensorCore cells alone. -/
def L (g : GSem nD τ sig) : Finset Unit := if g.1.2 = .tc then {()} else ∅
/-- Barrier cells at 1, receive cells at 2, the rest at 0. -/
def lv (g : GSem nD τ sig) (_ : Unit) : ℕ := match g.2 with | .reg _ => 1 | .dma q => if 35 ≤ q.val then 2 else 0

/-- No other thread has one; -/
theorem L_of_ne (g : GSem nD τ sig) (h : g.1.2 ≠ .tc) : L g = ∅ := if_neg h
/-- a TensorCore has one kind. -/
theorem L_tc (c : Dev nD) (sm : SemLoc sig) : L ((c : Thread nD τ), sm) = {()} := if_pos rfl
/-- A receive cell is at level 2. -/
theorem lv_recv (c : Dev nD) (d : Fin 32) : lv (recvCell c d) () = 2 := if_pos (by show 35 ≤ 35 + d.val; omega)

/-- What is owed on transfers is owed to receive cells, -/
theorem recvDues_pos {c : Dev nD} {S : Finset (Fin 32)} {g : GSem nD τ sig} {u : Unit} (h : 0 < recvDues c S g u) :
    ∃ d, g = recvCell (c + d) d := by
  by_contra hn
  refine absurd h (Nat.not_lt.mpr (Nat.le_zero.mpr ?_))
  unfold recvDues
  rw [Finset.sum_apply, Finsupp.finsetSum_apply]
  exact Finset.sum_eq_zero fun d _ => by rw [tallyAt_apply, if_neg fun h' => hn ⟨d, h'.1⟩]
/-- what is owed on signals to barriers, -/
theorem barDues_pos {c : Dev nD} {S : Finset (Fin 32)} {g : GSem nD τ sig} {u : Unit} (h : 0 < barDues c S g u) :
    ∃ d, g = barCell (c + d) := by
  by_contra hn
  refine absurd h (Nat.not_lt.mpr (Nat.le_zero.mpr ?_))
  unfold barDues
  rw [Finset.sum_apply, Finsupp.finsetSum_apply]
  exact Finset.sum_eq_zero fun d _ => by rw [tallyAt_apply, if_neg fun h' => hn ⟨d, h'.1⟩]
/-- and at launch to these only. -/
theorem O₀_pos {c : Dev nD} {g : GSem nD τ sig} {u : Unit} (h : 0 < O₀ c g u) :
    (∃ d, g = recvCell (c + d) d) ∨ ∃ d, g = barCell (c + d) := by
  unfold O₀ at h
  rw [Pi.add_apply, Finsupp.add_apply] at h
  rcases Nat.eq_zero_or_pos (recvDues c (pend 0) g u) with h0 | h0
  · rw [h0, Nat.zero_add] at h; exact .inr (barDues_pos h)
  · exact .inl (recvDues_pos h0)

/-- A staging semaphore's wait, owing everything or nothing. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact Nat.le_of_eq (if_neg (by omega)))
      (fun g u hg => by
        rcases O₀_pos hg with ⟨d, rfl⟩ | ⟨d, rfl⟩
        · exact Nat.lt_of_lt_of_eq (by decide) (lv_recv _ d).symm
        · show 0 < 1; decide)
  · rw [MayWait_zero]; iintro -; iempintro

/-- The barrier's wait, owing receive cells only. -/
theorem mayWait_bar (c : Dev nD) (S : Finset (Fin 32)) :
    (levAts L lv : sProp 𝕄) ⊢ MayWait (c : Thread nD τ) (.reg barS) () (recvDues c S) :=
  MayOwe.of_cut (L := L) (lev := lv) 1 (fun p hp => by rw [Finset.mem_singleton.mp hp, L_tc]; exact Finset.mem_singleton_self _)
    (fun g u hg => by obtain ⟨d, rfl⟩ := recvDues_pos hg; exact Finset.mem_singleton_self _)
    (fun p hp => by rw [Finset.mem_singleton.mp hp]; exact Nat.le_refl 1)
    (fun g u hg => by obtain ⟨d, rfl⟩ := recvDues_pos hg; exact Nat.lt_of_lt_of_eq (by decide) (lv_recv _ d).symm)

/-- A transfer pays one of what is owed to receive cells, -/
theorem recvDues_step (c : Dev nD) {i : ℕ} {d : Fin 32} (h : d.val = i + 1) :
    recvDues c (pend i) = recvDues c (pend (i + 1)) + tallyAt (recvCell (c + d) d) () N := by
  unfold recvDues; rw [pend_step h, Finset.sum_insert (not_mem_pend h), add_comm]
/-- and a signal one of what is owed to barriers. -/
theorem barDues_step (c : Dev nD) {i : ℕ} {d : Fin 32} (h : d.val = i + 1) :
    barDues c (pend i) = barDues c (pend (i + 1)) + tallyAt (barCell (c + d)) () 1 := by
  unfold barDues; rw [pend_step h, Finset.sum_insert (not_mem_pend h), add_comm]

end Cert.A2A

end
-- ==== Proof.Views.lean ====
/-
# The all-to-all: the views the kernel names

A tile of `y_tiles` and a row block of the result, by the offset the program prints for them: which elements they are, what
reads through them are and what a write through them leaves.
-/
module

public import proofs.«01_k».proof.Proof.Sched

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The staged rows of `x`, -/
abbrev xM : Memref sig .tc .vmem S64x2048 .bf16 := Memref.whole cc0_stg0_0
/-- the staged `w`, -/
abbrev wM : Memref sig .tc .vmem S2048x2048 .bf16 := Memref.whole cc0_stg1_0
/-- the staged result, -/
abbrev oM : Memref sig .tc .vmem S2048x64 .bf16 := Memref.whole cc0_stg2_0
/-- and `y_tiles`. -/
abbrev yM : Memref sig .tc .vmem S32x64x64 .bf16 := Memref.whole cc0_scratch0

/-- The rectangle of one tile, at an offset; that of a row block. -/
abbrev tileR (off : Fin 3 → ℕ) (inb : ∀ a, off a + S1x64x64.size a ≤ S32x64x64.size a) : Rect S32x64x64 := Rect.unit off S1x64x64.size inb
/-- A row block as a rectangle of the result, -/
abbrev rowR (off : Fin 2 → ℕ) (inb : ∀ a, off a + S64x64.size a ≤ S2048x64.size a) : Rect S2048x64 := Rect.unit off S64x64.size inb

/-- The tile as a transfer's end; the row block as one. -/
abbrev yTile (off : Fin 3 → ℕ) (inb : ∀ a, off a + S1x64x64.size a ≤ S32x64x64.size a) : Memref sig .tc .vmem S64x64 .bf16 :=
  Memref.squeeze (yM.slice (tileR off inb) (fun _ => rfl) : Memref sig .tc .vmem S1x64x64 .bf16) S64x64 squeezes_S1x64x64_S64x64
/-- and as a piece of it. -/
abbrev oRows (off : Fin 2 → ℕ) (inb : ∀ a, off a + S64x64.size a ≤ S2048x64.size a) : Memref sig .tc .vmem S64x64 .bf16 :=
  oM.slice (rowR off inb) (fun _ => rfl)

section
variable {off : Fin 3 → ℕ} {inb : ∀ a, off a + S1x64x64.size a ≤ S32x64x64.size a} {p : Fin 32}

/-- The rectangle of tile `p` has the tile's elements. -/
theorem tileR_set (h : off = ![p.val, 0, 0]) : (tileR off inb).set = tileSet p := by
  subst h
  ext i
  rw [Rect.mem_set_unit, tileSet, Finset.mem_filter]
  have h1 : (i (1 : Fin 3)).val < 64 := (i (1 : Fin 3)).isLt
  have h2 : (i (2 : Fin 3)).val < 64 := (i (2 : Fin 3)).isLt
  constructor
  · intro h
    have h0 : p.val ≤ (i (0 : Fin 3)).val ∧ (i (0 : Fin 3)).val < p.val + 1 := h 0
    exact ⟨Finset.mem_univ _, by omega⟩
  · rintro ⟨-, h0⟩ a
    fin_cases a
    · show p.val ≤ (i (0 : Fin 3)).val ∧ (i (0 : Fin 3)).val < p.val + 1; omega
    · show 0 ≤ (i (1 : Fin 3)).val ∧ (i (1 : Fin 3)).val < 0 + 64; omega
    · show 0 ≤ (i (2 : Fin 3)).val ∧ (i (2 : Fin 3)).val < 0 + 64; omega

/-- Entry `(r, q)` of tile `p`, as an index of `y_tiles`. -/
abbrev tileIx (p : Fin 32) (r q : Fin 64) : S32x64x64.Idx := ix3 (n0 := 32) (n1 := 64) (n2 := 64) p r q

/-- Where an element of the rectangle lies in `y_tiles`. -/
theorem tileR_emb (h : off = ![p.val, 0, 0]) (u : Fin 1) (r q : Fin 64) :
    (tileR off inb).emb (ix3 (n0 := 1) (n1 := 64) (n2 := 64) u r q) = tileIx p r q := by
  subst h
  funext a
  apply Fin.ext
  rw [Rect.emb_apply]
  fin_cases a
  · show p.val + 1 * u.val = p.val; omega
  · show 0 + 1 * r.val = r.val; omega
  · show 0 + 1 * q.val = q.val; omega

/-- An element of tile `p` by its coordinates. -/
theorem eq_tileIx {i : S32x64x64.Idx} (h : (i (0 : Fin 3)).val = p.val) :
    i = tileIx p ⟨(i (1 : Fin 3)).val, (i (1 : Fin 3)).isLt⟩ ⟨(i (2 : Fin 3)).val, (i (2 : Fin 3)).isLt⟩ := by
  funext a
  apply Fin.ext
  fin_cases a
  · exact h
  · rfl
  · rfl

/-- The view of tile `p` has the tile's elements; -/
theorem yTile_set (h : off = ![p.val, 0, 0]) : (yTile off inb).view.set = tileSet p := by
  have h1 : (yTile off inb).view.set = ((View.whole cc0_scratch0).slice (tileR off inb)).set := View.set_reshape _ _
  exact h1.trans ((View.set_slice_whole cc0_scratch0 (tileR off inb)).trans (tileR_set h))

/-- so has an access to it. -/
theorem yAccess_set (h : off = ![p.val, 0, 0]) : (yM.access (tileR off inb)).set = tileSet p :=
  (View.set_slice_whole cc0_scratch0 (tileR off inb)).trans (tileR_set h)

omit [FloatOps F] in
/-- What a transfer reads from tile `p`. -/
theorem yTile_read (h : off = ![p.val, 0, 0]) (f : S32x64x64.Idx → Elt F .bf16) (r q : Fin 64) :
    (yTile off inb).view.read (Elt F) f (ix2 r q) = f (tileIx p r q) := by
  show f ((tileR off inb).emb (Shape.reshapeEquiv _ (ix2 r q))) = _
  rw [reshapeEquiv_ix2_1ab, tileR_emb h]

omit [FloatOps F] in
/-- What a load reads from tile `p`. -/
theorem yAccess_read (h : off = ![p.val, 0, 0]) (f : S32x64x64.Idx → Elt F .bf16) (u : Fin 1) (r q : Fin 64) :
    (yM.access (tileR off inb)).read (Elt F) f (ix3 u r q) = f (tileIx p r q) := by
  show f ((tileR off inb).emb (ix3 u r q)) = _
  rw [tileR_emb h]

omit [FloatOps F] in
/-- What a store to tile `p` leaves in it. -/
theorem yAccess_write (h : off = ![p.val, 0, 0]) (f : S32x64x64.Idx → Elt F .bf16) (w : S1x64x64.Idx → Elt F .bf16)
    {i : S32x64x64.Idx} (hi : (i (0 : Fin 3)).val = p.val) :
    (yM.access (tileR off inb)).write (Elt F) f w Finset.univ i
      = w (ix3 (0 : Fin 1) ⟨(i (1 : Fin 3)).val, (i (1 : Fin 3)).isLt⟩ ⟨(i (2 : Fin 3)).val, (i (2 : Fin 3)).isLt⟩) := by
  conv_lhs => rw [eq_tileIx hi, ← tileR_emb (inb := inb) h 0]
  exact View.write_emb_of_mem (v := yM.access (tileR off inb)) (Val := Elt F) f w (Finset.mem_univ _)

omit [FloatOps F] in
/-- A store to tile `p` leaves the other tiles. -/
theorem yAccess_write_of_ne (h : off = ![p.val, 0, 0]) (f : S32x64x64.Idx → Elt F .bf16) (w : S1x64x64.Idx → Elt F .bf16)
    {i : S32x64x64.Idx} (hi : (i (0 : Fin 3)).val ≠ p.val) :
    (yM.access (tileR off inb)).write (Elt F) f w Finset.univ i = f i := by
  refine View.write_of_not_mem (v := yM.access (tileR off inb)) (Val := Elt F) f w Finset.univ ?_
  intro hm
  have h2 : i ∈ (yM.access (tileR off inb)).set := hm
  rw [yAccess_set h] at h2
  exact hi (Finset.mem_filter.mp h2).2
end

section
variable {off : Fin 2 → ℕ} {inb : ∀ a, off a + S64x64.size a ≤ S2048x64.size a} {p : Fin 32}

/-- The rectangle of row block `p` has the block's elements; -/
theorem rowR_set (h : off = ![64 * p.val, 0]) : (rowR off inb).set = rowSet p := by
  subst h
  ext i
  rw [Rect.mem_set_unit, rowSet, Finset.mem_filter]
  have h1 : (i (1 : Fin 2)).val < 64 := (i (1 : Fin 2)).isLt
  constructor
  · intro h
    have h0 : 64 * p.val ≤ (i (0 : Fin 2)).val ∧ (i (0 : Fin 2)).val < 64 * p.val + 64 := h 0
    exact ⟨Finset.mem_univ _, by omega⟩
  · rintro ⟨-, h0⟩ a
    fin_cases a
    · show 64 * p.val ≤ (i (0 : Fin 2)).val ∧ (i (0 : Fin 2)).val < 64 * p.val + 64; omega
    · show 0 ≤ (i (1 : Fin 2)).val ∧ (i (1 : Fin 2)).val < 0 + 64; omega

/-- so has its view. -/
theorem oRows_set (h : off = ![64 * p.val, 0]) : (oRows off inb).view.set = rowSet p :=
  (View.set_slice_whole cc0_stg2_0 (rowR off inb)).trans (rowR_set h)

/-- An element of row block `p` as an element of the block. -/
theorem rowR_emb (h : off = ![64 * p.val, 0]) {i : S2048x64.Idx} (hi : (i (0 : Fin 2)).val / 64 = p.val) :
    (rowR off inb).emb (ix2 (n0 := 64) (n1 := 64) ⟨(i (0 : Fin 2)).val % 64, Nat.mod_lt _ (by decide)⟩ ⟨(i (1 : Fin 2)).val, (i (1 : Fin 2)).isLt⟩) = i := by
  subst h
  funext a
  apply Fin.ext
  rw [Rect.emb_apply]
  fin_cases a
  · show 64 * p.val + 1 * ((i (0 : Fin 2)).val % 64) = (i (0 : Fin 2)).val; omega
  · show 0 + 1 * (i (1 : Fin 2)).val = (i (1 : Fin 2)).val; omega

omit [FloatOps F] in
/-- What a write to row block `p` leaves in it. -/
theorem oRows_write (h : off = ![64 * p.val, 0]) (f : S2048x64.Idx → Elt F .bf16) (w : S64x64.Idx → Elt F .bf16)
    {i : S2048x64.Idx} (hi : (i (0 : Fin 2)).val / 64 = p.val) :
    (oRows off inb).view.write (Elt F) f w Finset.univ i
      = w (ix2 ⟨(i (0 : Fin 2)).val % 64, Nat.mod_lt _ (by decide)⟩ ⟨(i (1 : Fin 2)).val, (i (1 : Fin 2)).isLt⟩) := by
  conv_lhs => rw [← rowR_emb (inb := inb) h hi]
  exact View.write_emb_of_mem (v := (oRows off inb).view) (Val := Elt F) f w (Finset.mem_univ _)
end

/-! ## The contents each transfer and store leaves -/

variable (m : (ℓ : Loc nD τ sig) → Buf (Elt F) ℓ) (ρ : Dev nD → PrngReg)

/-- Tile `e` of device `c` is row block `c` of device `e`'s result. -/
theorem tilesAt_eq_outAt (c e : Fin 32) {i : S2048x64.Idx} (hi : (i (0 : Fin 2)).val / 64 = c.val) :
    tilesAt m ρ c (tileIx e ⟨(i (0 : Fin 2)).val % 64, Nat.mod_lt _ (by decide)⟩ ⟨(i (1 : Fin 2)).val, (i (1 : Fin 2)).isLt⟩)
      = outAt m ρ e i := by
  have hc : (⟨(i (0 : Fin 2)).val / 64, by have h : (i (0 : Fin 2)).val < 2048 := (i (0 : Fin 2)).isLt; omega⟩ : Fin 32) = c := Fin.ext hi
  unfold outAt
  rw [hc]
  rfl

/-- The landing of device `c`'s tile `e` in row block `c` of device `e`. -/
theorem landed (c e : Fin 32) {off₁ : Fin 3 → ℕ} {inb₁} {off₂ : Fin 2 → ℕ} {inb₂}
    (h₁ : off₁ = ![e.val, 0, 0]) (h₂ : off₂ = ![64 * c.val, 0]) (f : S2048x64.Idx → Elt F .bf16)
    {i : S2048x64.Idx} (hi : i ∈ rowSet c) :
    (oRows off₂ inb₂).view.write (Elt F) f ((yTile off₁ inb₁).view.read (Elt F) (tilesAt m ρ c)) Finset.univ i = outAt m ρ e i := by
  have hi' := (Finset.mem_filter.mp hi).2
  rw [oRows_write h₂ f _ hi', yTile_read h₁]
  exact tilesAt_eq_outAt m ρ c e hi'

/-- The store of device `c`'s own tile. -/
theorem stored_own (c : Fin 32) {off₁ : Fin 3 → ℕ} {inb₁} {off₂ : Fin 2 → ℕ} {inb₂}
    (h₁ : off₁ = ![c.val, 0, 0]) (h₂ : off₂ = ![64 * c.val, 0]) (f : S2048x64.Idx → Elt F .bf16)
    {i : S2048x64.Idx} (hi : i ∈ rowSet c) :
    (oM.access (rowR off₂ inb₂)).write (Elt F) f (k0_pay39 ((yM.access (tileR off₁ inb₁)).read (Elt F) (tilesAt m ρ c))) Finset.univ i
      = outAt m ρ c i := by
  have hi' := (Finset.mem_filter.mp hi).2
  refine (oRows_write (inb := inb₂) h₂ f _ hi').trans ?_
  unfold k0_pay39
  refine (shapeCast_1ab_ab_apply _ _ _ _).trans ?_
  rw [yAccess_read h₁]
  exact tilesAt_eq_outAt m ρ c c hi'

/-- The first `p` tiles of device `c` are computed. -/
def Filled (c : Dev nD) (p : ℕ) (f : S32x64x64.Idx → Elt F .bf16) : Prop :=
  ∀ i : S32x64x64.Idx, (i (0 : Fin 3)).val < p → f i = tilesAt m ρ c i

/-- None are at the start; -/
theorem Filled.zero (c : Dev nD) (f : S32x64x64.Idx → Elt F .bf16) : Filled m ρ c 0 f := fun _ h => absurd h (Nat.not_lt_zero _)
/-- all are when 32 are. -/
theorem Filled.all {c : Dev nD} {f : S32x64x64.Idx → Elt F .bf16} (h : Filled m ρ c 32 f) : f = tilesAt m ρ c :=
  funext fun i => h i (i (0 : Fin 3)).isLt

/-- Columns `[64 p, 64 p + 64)` of device `c`'s product stored as tile `p`. -/
theorem Filled.step {c : Dev nD} {p : Fin 32} {f : S32x64x64.Idx → Elt F .bf16} (hf : Filled m ρ c p.val f)
    {off : Fin 3 → ℕ} {inb} (h : off = ![p.val, 0, 0]) {o : Fin 2 → ℕ} (ho : o = ![0, 64 * p.val]) (hs : S64x2048.Slices o S64x64)
    (hc : S64x64.ShapeCasts S1x64x64) {w : S1x64x64.Idx → Elt F .bf16}
    (hw : w = shapeCast S1x64x64 (extractStridedSlice S64x64 o (ybf m ρ c) hs) hc) :
    Filled m ρ c (p.val + 1) ((yM.access (tileR off inb)).write (Elt F) f w Finset.univ) := by
  intro i hi
  by_cases h0 : (i (0 : Fin 3)).val = p.val
  · rw [yAccess_write h f w h0, hw]
    refine (shapeCast_ab_1ab_apply _ _ _ _ _).trans ?_
    refine extractStridedSlice_apply o (ybf m ρ c) hs _ (ix2 (n0 := 64) (n1 := 2048) _ _) fun a => ?_
    subst ho
    fin_cases a
    · exact (Nat.zero_add _).symm
    · show 64 * (i (0 : Fin 3)).val + (i (2 : Fin 3)).val = 64 * p.val + (i (2 : Fin 3)).val
      rw [h0]
  · rw [yAccess_write_of_ne h f w h0]
    exact hf i (by omega)

end Cert.A2A

end
-- ==== Proof.Steps.lean ====
/-
# The all-to-all: one step of each phase

The body runs through phases: the signals, the computation, the barrier's wait, the transfers, the own tile, the waits for
the transfers sent, those for the transfers received. A phase that takes 31 steps is described by what is held after `i` of
them; its step is proved here once, for every `i`, every device and every program that goes on from it.
-/
module

public import proofs.«01_k».proof.Proof.Views

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the body needs a measure. -/
abbrev 𝒱₀ : Variants := Variants.none

variable (m : (ℓ : Loc nD τ sig) → Buf (Elt F) ℓ) (ρ : Dev nD → PrngReg)

/-- What every device may use at any time: the cells' invariants, that round 0 of each is reached, the levels. -/
def records (K : Dev nD × CI → ℕ) : sProp 𝕄 :=
  iprop((bigSep Finset.univ fun ck : Dev nD × CI => cellInv ER (sched m ρ) (K ck) (kcell ck))
    ∗ (bigSep Finset.univ fun ck : Dev nD × CI => reached ER (kcell ck) 0) ∗ levAts L lv)

/-- What is known of the cells may be used any number of times: -/
instance records_persistent (K : Dev nD × CI → ℕ) : BI.Persistent (records (F := F) m ρ K) := by unfold records; infer_instance

section
variable (K : Dev nD × CI → ℕ) (c : Dev nD) (d : Fin 32)

/-- the invariant of each cell, -/
theorem inv_at (ck : Dev nD × CI) : records m ρ K ⊢ cellInv ER (sched m ρ) (K ck) (kcell ck) := by
  unfold records
  iintro ⟨H, -⟩
  iapply (show (bigSep Finset.univ fun ck : Dev nD × CI => (cellInv ER (sched m ρ) (K ck) (kcell ck) : sProp 𝕄)) ⊢ _ from bigSep_elim (Finset.mem_univ ck)) $$ H
/-- and that it is at its first round. -/
theorem reached_at (ck : Dev nD × CI) : records m ρ K ⊢ reached ER (kcell ck) 0 := by
  unfold records
  iintro ⟨-, H, -⟩
  iapply (show (bigSep Finset.univ fun ck : Dev nD × CI => (reached ER (kcell ck) 0 : sProp 𝕄)) ⊢ _ from bigSep_elim (Finset.mem_univ ck)) $$ H
/-- The index of the barrier, -/
abbrev kBar (c : Dev nD) : Dev nD × CI := (c, .inl ())
/-- of send cell `d`, -/
abbrev kSend (c : Dev nD) (d : Fin 32) : Dev nD × CI := (c, .inr (.inl d))
/-- of receive cell `d`. -/
abbrev kRecv (c : Dev nD) (d : Fin 32) : Dev nD × CI := (c, .inr (.inr d))

/-! ## What is held -/

/-- What device `c` pays its signal `d` with: the duty's token and row block `c + d` of its own result. -/
def sigPart : sProp 𝕄 := iprop(dutyTok ER (barCell (c + d)) 0 (-d) ∗ ∃ f, rowPts c (c + d) f)
/-- What its transfer `d` starts from: its tile `c + d`, where it lands, the two duties' tokens. -/
def xferPart : sProp 𝕄 :=
  iprop(tilePts c (c + d) (tilesAt m ρ c) ∗ (∃ f, rowPts (c + d) c f) ∗ dutyTok ER (sendCell c d) 0 0 ∗ dutyTok ER (recvCell (c + d) d) 0 0)
/-- What its wait for transfer `d` to have left starts from, and what it gives. -/
def sentPart : sProp 𝕄 := iprop(cred (tallyAt (sendCell c d) () N) ∗ atPos ER (sendCell c d) 0 ∅ 0)
/-- What device `c` has back when its transfer `d` has left. -/
def sentDone : sProp 𝕄 := iprop(tilePts c (c + d) (tilesAt m ρ c) ∗ atPos ER (sendCell c d) 1 ∅ 0)
/-- What its wait for the transfer landing on cell `d` starts from, and what it gives. -/
def gotPart : sProp 𝕄 := iprop(cred (tallyAt (recvCell c d) () N) ∗ atPos ER (recvCell c d) 0 ∅ 0)
/-- What it has when the transfer `d` to it has landed. -/
def gotDone : sProp 𝕄 := iprop(rowPts c (c - d) (outAt m ρ c) ∗ atPos ER (recvCell c d) 1 ∅ 0)

variable (i : ℕ)

/-- After `i` signals. -/
def sigPh : sProp 𝕄 :=
  iprop(bigSep (pend i) (fun d => sigPart c d) ∗ ∃ W, owes (c : Thread nD τ) (recvDues c (pend 0) + barDues c (pend i)) W)
/-- After `i` transfers. -/
def xferPh : sProp 𝕄 :=
  iprop(bigSep (pend i) (fun d => xferPart m ρ c d) ∗ bigSep (done i) (fun d => (cred (tallyAt (sendCell c d) () N) : sProp 𝕄))
    ∗ ∃ W, owes (c : Thread nD τ) (recvDues c (pend i)) W)
/-- After `i` waits for transfers sent. -/
def sentPh : sProp 𝕄 :=
  iprop(bigSep (pend i) (fun d => sentPart c d) ∗ bigSep (done i) (fun d => sentDone m ρ c d) ∗ ∃ W, owes (c : Thread nD τ) 0 W)
/-- After `i` waits for transfers received. -/
def gotPh : sProp 𝕄 :=
  iprop(bigSep (pend i) (fun d => gotPart c d) ∗ bigSep (done i) (fun d => gotDone m ρ c d) ∗ ∃ W, owes (c : Thread nD τ) 0 W)

end

/-! ## The steps -/

omit [FloatOps F] in
/-- The resources of the steps to come are those of the next and those after it. -/
theorem pend_take {i : ℕ} {d : Fin 32} (h : d.val = i + 1) (Φ : Fin 32 → sProp 𝕄) :
    bigSep (pend i) Φ = iprop(Φ d ∗ bigSep (pend (i + 1)) Φ) := by
  rw [pend_step h]; exact bigSep_insert (not_mem_pend h)
omit [FloatOps F] in
/-- The resources of the steps done, with one more. -/
theorem done_put {i : ℕ} {d : Fin 32} (h : d.val = i + 1) (Φ : Fin 32 → sProp 𝕄) :
    bigSep (done (i + 1)) Φ = iprop(Φ d ∗ bigSep (done i) Φ) := by
  rw [done_step h]; exact bigSep_insert (not_mem_done h)

section
variable {m ρ}
variable {K : Dev nD × CI → ℕ} {c : Dev nD} {i : ℕ}

/-- Signal `d`: it hands row block `c + d` of the own result to device `c + d`. -/
theorem sig_step {Fr : sProp 𝕄} {α : Type} {Q : α → sProp 𝕄} (d : Fin 32) (hd : d.val = i + 1) {n : Dev nD} (hn : n = c + d) {s : Sem sig} (hs : s = barS)
    {k' : ℤ} (hk : k' = (1 : ℕ)) {k : PUnit → Prog (TpuEff nD τ sig (Elt F) Λ₀ .tc) α}
    (h : iprop(records m ρ K ∗ sigPh c (i + 1) ∗ Fr) ⊢ wp frame (wpE (defs₀ (F := F)) 𝒱₀ (c : Thread nD τ) none) Set.univ (k ⟨⟩) Q) :
    iprop(records m ρ K ∗ sigPh c i ∗ Fr) ⊢ wp frame (wpE (defs₀ (F := F)) 𝒱₀ (c : Thread nD τ) none) Set.univ (.op (.semSignal (Dev.tc n : Thread nD τ) s k') k) Q := by
  subst hn hs hk
  iintro ⟨#HR, Hph, HF⟩
  unfold sigPh
  rw [pend_take hd]
  icases Hph with ⟨⟨Hp, Hrest⟩, ⟨%W, HO⟩⟩
  unfold sigPart
  icases Hp with ⟨Htok, ⟨%f, Hrow⟩⟩
  iapply (Rounds.wp_signal 𝒱₀ ER (sched m ρ) (c : Thread nD τ) none (dst := ((c + d : Dev nD) : Thread nD τ)) (κ := K (kBar (c + d)))
      (d := -d) (by rw [duties_bar]; exact Finset.mem_erase.mpr ⟨neg_ne_zero.mpr (ne_zero_of_step hd), Finset.mem_univ _⟩)
      (amount_bar m ρ (c + d) (-d)) () (recvDues c (pend 0) + barDues c (pend (i + 1)))
      (O₀ := recvDues c (pend 0) + barDues c (pend i))
      (by rw [barDues_step c hd, add_assoc])) $$ [HO Htok Hrow]
  · isplitr; · iapply (inv_at m ρ K (kBar (c + d))); iexact HR
    isplitl [HO]; · iexact HO
    isplitl [Htok]; · iexact Htok
    isplitl [Hrow]
    · rw [payload_bar]; unfold barPay; rw [add_neg_cancel_right]
      iexists f; iexact Hrow
    · iapply (reached_at m ρ K (kBar (c + d))); iexact HR
  iintro HO
  iapply h
  isplitr; · iexact HR
  isplitr [HF]
  · unfold sigPh sigPart
    isplitl [Hrest]; · iexact Hrest
    iexists W; iexact HO
  · iexact HF

/-- Transfer `d`: it takes tile `c + d` and row block `c` of device `c + d`'s result, and pays its two duties when it
has left and landed. -/
theorem xfer_step {Fr : sProp 𝕄} {α : Type} {Q : α → sProp 𝕄} (d : Fin 32) (hd : d.val = i + 1) {n : Dev nD} (hn : n = c + d)
    {sS sR : DmaSem sig} (hsS : sS = sendS d) (hsR : sR = recvS d)
    {off₁ : Fin 3 → ℕ} (h₁ : off₁ = ![(c + d).val, 0, 0]) {inb₁ : ∀ a, off₁ a + S1x64x64.size a ≤ S32x64x64.size a}
    {off₂ : Fin 2 → ℕ} (h₂ : off₂ = ![64 * c.val, 0]) {inb₂ : ∀ a, off₂ a + S64x64.size a ≤ S2048x64.size a}
    {hsc : (oRows off₂ inb₂ : Memref sig (Dev.tc (n) : Thread nD τ).2.kind .vmem S64x64 .bf16).view.ref.isScScratch = false}
    {hsrc : (yTile off₁ inb₁).view.WordExact} {hdst : (oRows off₂ inb₂).view.WordExact}
    {hsem : DmaTarget.Typed .vmem (.dma sR) (.remote (Dev.tc (n) : Thread nD τ) (oRows off₂ inb₂ : Memref sig (Dev.tc (n) : Thread nD τ).2.kind .vmem S64x64 .bf16) (.dma sS) hsc)}
    {k : PUnit → Prog (TpuEff nD τ sig (Elt F) Λ₀ .tc) α}
    (h : iprop(records m ρ K ∗ xferPh m ρ c (i + 1) ∗ Fr) ⊢ wp frame (wpE (defs₀ (F := F)) 𝒱₀ (c : Thread nD τ) none) Set.univ (k ⟨⟩) Q) :
    iprop(records m ρ K ∗ xferPh m ρ c i ∗ Fr)
      ⊢ wp frame (wpE (defs₀ (F := F)) 𝒱₀ (c : Thread nD τ) none) Set.univ (.op (.enqueueDma (yTile off₁ inb₁) (.remote (Dev.tc (n) : Thread nD τ) (oRows off₂ inb₂) (.dma sS) hsc) (.dma sR) hsrc hdst hsem) k) Q := by
  subst hn hsS hsR
  iintro ⟨#HR, Hph, HF⟩
  unfold xferPh
  rw [pend_take hd]
  icases Hph with ⟨⟨Hp, Hrest⟩, Hdone, ⟨%W, HO⟩⟩
  unfold xferPart
  icases Hp with ⟨Htile, ⟨%f, Hrow⟩, HtS, HtR⟩
  unfold tilePts rowPts
  rw [← yTile_set (inb := inb₁) h₁, ← oRows_set (inb := inb₂) h₂]
  iapply (Rounds.wp_send_pointsTo 𝒱₀ ER (sched m ρ) (c : Thread nD τ) none (κ₁ := K (kSend c d)) (κ₂ := K (kRecv (c + d) d))
    (r₁ := 0) (r₂ := 0) (d₁ := 0) (d₂ := 0) (fd := f) (fs := tilesAt m ρ c)
    (by rw [duties_send m ρ c d (ne_zero_of_step hd)]; exact Finset.mem_singleton_self _)
    (by rw [duties_recv m ρ (c + d) d (ne_zero_of_step hd)]; exact Finset.mem_singleton_self _)
    () () N rfl (amount_send m ρ c d 0) (amount_recv m ρ (c + d) d 0) (recvDues c (pend (i + 1)))
    (recvDues_step c hd) (W := W)
    (by rw [payload_send]; unfold sendPay tilePts; rw [yTile_set h₁])
    (by
      rw [payload_recv]; unfold recvPay rowPts
      rw [add_sub_cancel_right, oRows_set h₂]
      exact Entails.of_eq (pointsTo_congr fun i hi => landed m ρ c (c + d) h₁ h₂ f hi))) $$ [Htile Hrow HO HtS HtR]
  · isplitr; · iapply (inv_at m ρ K (kSend c d)); iexact HR
    isplitr; · iapply (inv_at m ρ K (kRecv (c + d) d)); iexact HR
    isplitl [Htile]; · iexact Htile
    isplitl [Hrow]; · iexact Hrow
    isplitl [HO]; · iexact HO
    isplitl [HtS]; · iexact HtS
    isplitr; · iapply (reached_at m ρ K (kSend c d)); iexact HR
    isplitl [HtR]; · iexact HtR
    iapply (reached_at m ρ K (kRecv (c + d) d)); iexact HR
  iintro ⟨Hc, HO⟩
  iapply h
  isplitr; · iexact HR
  isplitr [HF]
  · unfold xferPh
    rw [done_put hd]
    isplitl [Hrest]
    · unfold xferPart tilePts rowPts
      rw [oRows_set (inb := inb₂) h₂]
      iexact Hrest
    isplitl [Hc Hdone]; · isplitl [Hc] <;> iassumption
    iexists W; iexact HO
  · iexact HF

/-- The wait for transfer `d` to have left gives its tile back. -/
theorem sent_step {Fr : sProp 𝕄} {α : Type} {Q : α → sProp 𝕄} (d : Fin 32) (hd : d.val = i + 1) {sS : DmaSem sig} (hsS : sS = sendS d)
    {sp sp' : Space} {s s' : Shape} {e e' : EltTy} {src : Memref sig .tc sp' s' e'} {dst : Memref sig .tc sp s e} (hN : dst.view.dmaCredit = N)
    {hsrc : src.view.WordExact} {hdst : dst.view.WordExact} {k : PUnit → Prog (TpuEff nD τ sig (Elt F) Λ₀ .tc) α}
    (h : iprop(records m ρ K ∗ sentPh m ρ c (i + 1) ∗ Fr) ⊢ wp frame (wpE (defs₀ (F := F)) 𝒱₀ (c : Thread nD τ) none) Set.univ (k ⟨⟩) Q) :
    iprop(records m ρ K ∗ sentPh m ρ c i ∗ Fr) ⊢ wp frame (wpE (defs₀ (F := F)) 𝒱₀ (c : Thread nD τ) none) Set.univ (.op (.waitDma2 sS src dst hsrc hdst) k) Q := by
  subst hsS
  iintro ⟨#HR, Hph, HF⟩
  unfold sentPh
  rw [pend_take hd]
  icases Hph with ⟨⟨Hp, Hrest⟩, Hdone, ⟨%W, HO⟩⟩
  unfold sentPart
  icases Hp with ⟨Hc, Hat⟩
  rw [← hN]
  iapply (Rounds.wp_wait_rest_token 𝒱₀ ER (sched m ρ) (c : Thread nD τ) none (κ := K (kSend c d))
      (wpE_waitDma2_eq 𝒱₀ (c : Thread nD τ) none Set.univ) (Set.mem_univ _) () (O := 0) (W := W) (R := 0) (m := 0) (T := ∅)
      (by rw [Nat.zero_add, hN]; exact (expect_send m ρ c d (ne_zero_of_step hd)).symm)) $$ [Hc HO Hat]
  · isplitr; · iapply (inv_at m ρ K (kSend c d)); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c d (ne_zero_of_step hd))) $$ Hpay
  iapply h
  isplitr; · iexact HR
  isplitr [HF]
  · unfold sentPh sentPart
    rw [done_put hd, ← hN]
    isplitl [Hrest]; · iexact Hrest
    isplitl [Hp Hat Hdone]
    · isplitr [Hdone]
      · unfold sentDone sendPay
        isplitl [Hp] <;> iassumption
      · iexact Hdone
    iexists _; iexact HO
  · iexact HF

/-- The wait for transfer `d` to have landed gives a filled row block. -/
theorem got_step {Fr : sProp 𝕄} {α : Type} {Q : α → sProp 𝕄} (d : Fin 32) (hd : d.val = i + 1) {sR : DmaSem sig} (hsR : sR = recvS d)
    {sp sp' : Space} {s s' : Shape} {e e' : EltTy} {src : Memref sig .tc sp' s' e'} {dst : Memref sig .tc sp s e} (hN : dst.view.dmaCredit = N)
    {hsrc : src.view.WordExact} {hdst : dst.view.WordExact} {k : PUnit → Prog (TpuEff nD τ sig (Elt F) Λ₀ .tc) α}
    (h : iprop(records m ρ K ∗ gotPh m ρ c (i + 1) ∗ Fr) ⊢ wp frame (wpE (defs₀ (F := F)) 𝒱₀ (c : Thread nD τ) none) Set.univ (k ⟨⟩) Q) :
    iprop(records m ρ K ∗ gotPh m ρ c i ∗ Fr) ⊢ wp frame (wpE (defs₀ (F := F)) 𝒱₀ (c : Thread nD τ) none) Set.univ (.op (.waitDma2 sR src dst hsrc hdst) k) Q := by
  subst hsR
  iintro ⟨#HR, Hph, HF⟩
  unfold gotPh
  rw [pend_take hd]
  icases Hph with ⟨⟨Hp, Hrest⟩, Hdone, ⟨%W, HO⟩⟩
  unfold gotPart
  icases Hp with ⟨Hc, Hat⟩
  rw [← hN]
  iapply (Rounds.wp_wait_rest_token 𝒱₀ ER (sched m ρ) (c : Thread nD τ) none (κ := K (kRecv c d))
      (wpE_waitDma2_eq 𝒱₀ (c : Thread nD τ) none Set.univ) (Set.mem_univ _) () (O := 0) (W := W) (R := 0) (m := 0) (T := ∅)
      (by rw [Nat.zero_add, hN]; exact (expect_recv m ρ c d (ne_zero_of_step hd)).symm)) $$ [Hc HO Hat]
  · isplitr; · iapply (inv_at m ρ K (kRecv c d)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c d (ne_zero_of_step hd))) $$ Hpay
  iapply h
  isplitr; · iexact HR
  isplitr [HF]
  · unfold gotPh gotPart
    rw [done_put hd, ← hN]
    isplitl [Hrest]; · iexact Hrest
    isplitl [Hp Hat Hdone]
    · isplitr [Hdone]
      · unfold gotDone recvPay
        isplitl [Hp] <;> iassumption
      · iexact Hdone
    iexists _; iexact HO
  · iexact HF

/-- The wait on the barrier: row block `c` of every other device comes with it. -/
theorem bar_step {Fr : sProp 𝕄} {α : Type} {Q : α → sProp 𝕄} {s : Sem sig} (hs : s = barS) {k' : ℕ} (hk : k' = 31) {k : PUnit → Prog (TpuEff nD τ sig (Elt F) Λ₀ .tc) α}
    (h : iprop(records m ρ K ∗ (bigSep (pend 0) (fun d => iprop(∃ f, rowPts (F := F) (c + d) c f)) ∗ atPos ER (barCell c) 1 ∅ 0
        ∗ ∃ W, owes (c : Thread nD τ) (recvDues c (pend 0)) W) ∗ Fr) ⊢ wp frame (wpE (defs₀ (F := F)) 𝒱₀ (c : Thread nD τ) none) Set.univ (k ⟨⟩) Q) :
    iprop(records m ρ K ∗ (cred (tallyAt (barCell c) () 31) ∗ atPos ER (barCell c) 0 ∅ 0 ∗ sigPh c 31) ∗ Fr) ⊢ wp frame (wpE (defs₀ (F := F)) 𝒱₀ (c : Thread nD τ) none) Set.univ (.op (.semWait s k') k) Q := by
  subst hs hk
  have hmw : (records m ρ K : sProp 𝕄) ⊢ (MayWait (c : Thread nD τ) (.reg barS) () (recvDues c (pend 0)) : sProp 𝕄) := by
    unfold records
    iintro ⟨-, -, H⟩
    iapply (mayWait_bar (F := F) c (pend 0))
    iexact H
  iintro ⟨#HR, ⟨Hc, Hat, Hph⟩, HF⟩
  unfold sigPh
  icases Hph with ⟨-, ⟨%W, HO⟩⟩
  rw [show recvDues c (pend 0) + barDues c (pend 31) = recvDues c (pend 0) by
    rw [pend_last]; unfold barDues; rw [Finset.sum_empty, add_zero]]
  iapply (Rounds.wp_wait_rest_token 𝒱₀ ER (sched m ρ) (c : Thread nD τ) none (κ := K (kBar c))
      (wpE_semWait_eq 𝒱₀ (c : Thread nD τ) none Set.univ) (Set.mem_univ _) () (O := recvDues c (pend 0)) (W := W) (R := 0) (m := 0) (T := ∅)
      (by rw [expect_bar])) $$ [Hc HO Hat]
  · isplitr; · iapply (inv_at m ρ K (kBar c)); iexact HR
    isplitl [Hc]; · iexact Hc
    isplitl [HO]; · iexact HO
    isplitr; · iapply hmw; iexact HR
    iexact Hat
  iintro ⟨HO, Hat, -, Hpay⟩
  ihave Hp := (Entails.of_eq (rest_bar m ρ c)) $$ Hpay
  iapply h
  isplitr; · iexact HR
  isplitr [HF]
  · rw [pend_zero]
    isplitl [Hp]; · unfold barPay; iexact Hp
    isplitl [Hat]; · iexact Hat
    iexists _; iexact HO
  · iexact HF

/-! ## Loads and stores -/

/-- A load whose value is not used. -/
theorem load_dead {α : Type} {Q : α → sProp 𝕄} {cs : CoreSpace} {sh : Shape} {e : EltTy} {b : Memref sig .tc cs sh e} {r : LoadRect sh} {hl : b.view.LoadsAt r}
    {k : (r.shape.Idx → Elt F e) → Prog (TpuEff nD τ sig (Elt F) Λ₀ .tc) α} {S : Finset (Idx (b.view.loc (c : Thread nD τ)))}
    {P : sProp 𝕄} {f : Buf (Elt F) (b.view.loc (c : Thread nD τ))} (hS : b.view.setOn r.set ⊆ S)
    (h : ∀ v, iprop(P ∗ (b.view.loc (c : Thread nD τ) ↦[S]{fullShare} f)) ⊢ wp frame (wpE (defs₀ (F := F)) 𝒱₀ (c : Thread nD τ) none) Set.univ (k v) Q) :
    iprop(P ∗ (b.view.loc (c : Thread nD τ) ↦[S]{fullShare} f)) ⊢ wp frame (wpE (defs₀ (F := F)) 𝒱₀ (c : Thread nD τ) none) Set.univ (.op (.load b r hl) k) Q := by
  iintro ⟨HP, Hb⟩
  iapply (wp_load 𝒱₀ (c : Thread nD τ) none Set.univ (m := b) hS) $$ Hb
  iintro Hb
  iapply (h _)
  isplitl [HP] <;> iassumption

end

end Cert.A2A

end
-- ==== Proof.Phases.lean ====
/-
# The all-to-all: the computation's steps, and the passage from each phase to the next
-/
module

public import proofs.«01_k».proof.Proof.Steps

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the computation holds -/

/-- The staged operands. -/
def inPts (c : Dev nD) : sProp 𝕄 :=
  iprop((((c : Thread nD τ).loc cc0_stg0_0) ↦{fullShare} xstg m ρ c) ∗ (((c : Thread nD τ).loc cc0_stg1_0) ↦{fullShare} wstg m ρ c))
/-- `y_tiles` with its first `i` tiles computed. -/
def tilePh (c : Dev nD) (i : ℕ) : sProp 𝕄 := iprop(∃ f, ⌜Filled m ρ c i f⌝ ∗ (((c : Thread nD τ).loc cc0_scratch0) ↦{fullShare} f))
/-- The own tile and the row block it goes to, before and after. -/
def ownPart (c : Dev nD) : sProp 𝕄 := iprop(tilePts c c (tilesAt m ρ c) ∗ ∃ f, rowPts c c f)
/-- The own tile, and the own row block filled with it. -/
def ownDone (c : Dev nD) : sProp 𝕄 := iprop(tilePts c c (tilesAt m ρ c) ∗ rowPts c c (outAt m ρ c))

/-- The literal offset zero. -/
theorem hz : (![0, 0] : Fin 2 → Nat) = fun _ => 0 := funext fun a => by fin_cases a <;> rfl

/-- A tile's columns lie in the product. -/
theorem slices_tile (p : Fin 32) : S64x2048.Slices ![0, 64 * p.val] S64x64 := by revert p; decide

section
variable {m ρ}
variable {K : Dev nD × CI → ℕ} {c : Dev nD} {i : ℕ}

/-- The loads of the two operands. -/
theorem in_step {Fr : sProp 𝕄} {α : Type} {Q : α → sProp 𝕄}
    {hx : (xM : Memref sig .tc .vmem S64x2048 .bf16).view.LoadsAt (Rect.unit (s := S64x2048) ![0, 0] S64x2048.size inb_S64x2048_S64x2048_0_0).toLoadRect}
    {hw : (wM : Memref sig .tc .vmem S2048x2048 .bf16).view.LoadsAt (Rect.unit (s := S2048x2048) ![0, 0] S2048x2048.size inb_S2048x2048_S2048x2048_0_0).toLoadRect}
    {k : Vec F S64x2048 .bf16 → Vec F S2048x2048 .bf16 → Prog (TpuEff nD τ sig (Elt F) Λ₀ .tc) α}
    (h : iprop(records m ρ K ∗ inPts m ρ c ∗ Fr) ⊢ wp frame (wpE (defs₀ (F := F)) 𝒱₀ (c : Thread nD τ) none) Set.univ (k (xstg m ρ c) (wstg m ρ c)) Q) :
    iprop(records m ρ K ∗ inPts m ρ c ∗ Fr)
      ⊢ wp frame (wpE (defs₀ (F := F)) 𝒱₀ (c : Thread nD τ) none) Set.univ (.op (.load xM (Rect.unit (s := S64x2048) ![0, 0] S64x2048.size inb_S64x2048_S64x2048_0_0).toLoadRect hx) fun v =>
          .op (.load wM (Rect.unit (s := S2048x2048) ![0, 0] S2048x2048.size inb_S2048x2048_S2048x2048_0_0).toLoadRect hw) fun w => k v w) Q := by
  iintro ⟨#HR, Hp, HF⟩
  unfold inPts
  icases Hp with ⟨Hx, Hw⟩
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  rw [show (xM : Memref sig .tc .vmem S64x2048 .bf16).view.readAt (Elt F) _ (xstg m ρ c) = xstg m ρ c from Memref.readAt_unit_zero (Elt F) cc0_stg0_0 hz _ _,
    show (wM : Memref sig .tc .vmem S2048x2048 .bf16).view.readAt (Elt F) _ (wstg m ρ c) = wstg m ρ c from Memref.readAt_unit_zero (Elt F) cc0_stg1_0 hz _ _]
  iapply h
  isplitr; · iexact HR
  isplitr [HF]
  · unfold inPts
    isplitl [Hx] <;> iassumption
  · iexact HF

/-- The load that precedes a tile's store: its value is not used. -/
theorem tile_load {Fr : sProp 𝕄} {α : Type} {Q : α → sProp 𝕄} {r : LoadRect S32x64x64} {hl : (yM : Memref sig .tc .vmem S32x64x64 .bf16).view.LoadsAt r}
    {k : (r.shape.Idx → Elt F .bf16) → Prog (TpuEff nD τ sig (Elt F) Λ₀ .tc) α}
    (h : ∀ v, iprop(records m ρ K ∗ tilePh m ρ c i ∗ Fr) ⊢ wp frame (wpE (defs₀ (F := F)) 𝒱₀ (c : Thread nD τ) none) Set.univ (k v) Q) :
    iprop(records m ρ K ∗ tilePh m ρ c i ∗ Fr) ⊢ wp frame (wpE (defs₀ (F := F)) 𝒱₀ (c : Thread nD τ) none) Set.univ (.op (.load yM r hl) k) Q := by
  iintro ⟨#HR, Hp, HF⟩
  unfold tilePh
  icases Hp with ⟨%f, %hf, Hy⟩
  iapply (wp_load 𝒱₀ (c : Thread nD τ) none Set.univ (m := yM) (Finset.subset_univ _)) $$ Hy
  iintro Hy
  iapply (h _)
  isplitr; · iexact HR
  isplitr [HF]
  · unfold tilePh
    iexists f
    isplitr; · (ipureintro; exact hf)
    iexact Hy
  · iexact HF

/-- A tile's store. -/
theorem tile_store {Fr : sProp 𝕄} {α : Type} {Q : α → sProp 𝕄} (p : Fin 32) (hp : p.val = i) {off : Fin 3 → ℕ}
    {inb : ∀ a, off a + S1x64x64.size a ≤ S32x64x64.size a} (h₁ : off = ![p.val, 0, 0])
    {w : S1x64x64.Idx → Elt F .bf16} (hw : w = shapeCast S1x64x64 (extractStridedSlice S64x64 ![0, 64 * p.val] (ybf m ρ c) (slices_tile p)) shapeCasts_S64x64_S1x64x64)
    {hx : ((yM : Memref sig .tc .vmem S32x64x64 .bf16).access (tileR off inb)).Stores Finset.univ}
    {hm : (Finset.univ : Finset (tileR off inb).shape.Idx) = Finset.univ ∨ ∀ a, (tileR off inb).stride a = 1}
    {k : PUnit → Prog (TpuEff nD τ sig (Elt F) Λ₀ .tc) α}
    (h : iprop(records m ρ K ∗ tilePh m ρ c (i + 1) ∗ Fr) ⊢ wp frame (wpE (defs₀ (F := F)) 𝒱₀ (c : Thread nD τ) none) Set.univ (k ⟨⟩) Q) :
    iprop(records m ρ K ∗ tilePh m ρ c i ∗ Fr) ⊢ wp frame (wpE (defs₀ (F := F)) 𝒱₀ (c : Thread nD τ) none) Set.univ (.op (.store yM (tileR off inb) w Finset.univ hx hm) k) Q := by
  subst hp
  iintro ⟨#HR, Hp, HF⟩
  unfold tilePh
  icases Hp with ⟨%f, %hf, Hy⟩
  iapply (wp_store 𝒱₀ (c : Thread nD τ) none Set.univ (m := yM) (r := tileR off inb) (Mk := Finset.univ) (Finset.subset_univ _)) $$ Hy
  iintro Hy
  iapply h
  isplitr; · iexact HR
  isplitr [HF]
  · unfold tilePh
    iexists _
    isplitr
    rotate_left
    · iexact Hy
    · ipureintro; exact Filled.step m ρ hf h₁ rfl (slices_tile p) shapeCasts_S64x64_S1x64x64 hw
  · iexact HF

/-- The own tile: loaded, and stored in its row block. -/
theorem own_step {Fr : sProp 𝕄} {α : Type} {Q : α → sProp 𝕄} {off₁ : Fin 3 → ℕ} (h₁ : off₁ = ![c.val, 0, 0])
    {inb₁ : ∀ a, off₁ a + S1x64x64.size a ≤ S32x64x64.size a} {off₂ : Fin 2 → ℕ} (h₂ : off₂ = ![64 * c.val, 0])
    {inb₂ : ∀ a, off₂ a + S64x64.size a ≤ S2048x64.size a}
    {hl : (yM : Memref sig .tc .vmem S32x64x64 .bf16).view.LoadsAt (tileR off₁ inb₁).toLoadRect}
    {hl' : (oM : Memref sig .tc .vmem S2048x64 .bf16).view.LoadsAt (rowR off₂ inb₂).toLoadRect}
    {hx : ((oM : Memref sig .tc .vmem S2048x64 .bf16).access (rowR off₂ inb₂)).Stores Finset.univ}
    {hm : (Finset.univ : Finset (rowR off₂ inb₂).shape.Idx) = Finset.univ ∨ ∀ a, (rowR off₂ inb₂).stride a = 1}
    {k : PUnit → Prog (TpuEff nD τ sig (Elt F) Λ₀ .tc) α}
    (h : iprop(records m ρ K ∗ ownDone m ρ c ∗ Fr) ⊢ wp frame (wpE (defs₀ (F := F)) 𝒱₀ (c : Thread nD τ) none) Set.univ (k ⟨⟩) Q) :
    iprop(records m ρ K ∗ ownPart m ρ c ∗ Fr)
      ⊢ wp frame (wpE (defs₀ (F := F)) 𝒱₀ (c : Thread nD τ) none) Set.univ (.op (.load yM (tileR off₁ inb₁).toLoadRect hl) fun v => .op (.load oM (rowR off₂ inb₂).toLoadRect hl') fun _ =>
          .op (.store oM (rowR off₂ inb₂) (k0_pay39 v) Finset.univ hx hm) k) Q := by
  iintro ⟨#HR, Hp, HF⟩
  unfold ownPart tilePts rowPts
  icases Hp with ⟨Hy, ⟨%f, Ho⟩⟩
  iapply (wp_load_rect 𝒱₀ (c : Thread nD τ) none Set.univ (m := yM) (r := tileR off₁ inb₁) (by rw [yAccess_set h₁])) $$ Hy
  iintro Hy
  iapply (wp_load_rect 𝒱₀ (c : Thread nD τ) none Set.univ (m := oM) (r := rowR off₂ inb₂) (by rw [show ((oM : Memref sig .tc .vmem S2048x64 .bf16).access (rowR off₂ inb₂)).set = rowSet c from oRows_set h₂])) $$ Ho
  iintro Ho
  iapply (wp_store 𝒱₀ (c : Thread nD τ) none Set.univ (m := oM) (r := rowR off₂ inb₂) (Mk := Finset.univ) (by rw [View.setOn_univ, show ((oM : Memref sig .tc .vmem S2048x64 .bf16).access (rowR off₂ inb₂)).set = rowSet c from oRows_set h₂])) $$ Ho
  iintro Ho
  iapply h
  isplitr; · iexact HR
  isplitr [HF]
  · unfold ownDone tilePts rowPts
    isplitl [Hy]; · iexact Hy
    iapply (Entails.of_eq (pointsTo_congr fun i hi => stored_own m ρ c h₁ h₂ f hi)) $$ Ho
  · iexact HF

end

/-! ## From one phase to the next -/

section
variable (c : Dev nD)

omit [FloatOps F] in
theorem sep_parts (S : Finset (Fin 32)) (Φ Ψ : Fin 32 → sProp 𝕄) :
    bigSep S (fun d => iprop(Φ d ∗ Ψ d)) = iprop(bigSep S Φ ∗ bigSep S Ψ) := bigSep_sep S Φ Ψ

omit [FloatOps F] in
/-- Step 0 apart. -/
theorem zero_apart (Φ : Fin 32 → sProp 𝕄) : bigSep Finset.univ Φ = iprop(Φ 0 ∗ bigSep (pend 0) Φ) := by
  rw [show (Finset.univ : Finset (Fin 32)) = insert 0 (pend 0) by decide]
  exact bigSep_insert (by decide)

omit [FloatOps F] in
/-- A family over the devices, counted from `c` on: `c` itself, then `c + d` for the steps `d`. -/
theorem from_here (Φ : Fin 32 → sProp 𝕄) : bigSep Finset.univ Φ = iprop(Φ c ∗ bigSep (pend 0) fun d => Φ (c + d)) := by
  have h := zero_apart (fun d => Φ (c + d))
  rw [add_zero] at h
  exact (bigSep_univ_equiv (Equiv.addLeft (c : Fin 32)) Φ).trans h

omit [FloatOps F] in
/-- The same counted backwards. -/
theorem back_from_here (Φ : Fin 32 → sProp 𝕄) : bigSep Finset.univ Φ = iprop(Φ c ∗ bigSep (pend 0) fun d => Φ (c - d)) := by
  have h := zero_apart (fun d => Φ (c - d))
  rw [sub_zero] at h
  exact (bigSep_univ_equiv (Equiv.subLeft (c : Fin 32)) Φ).trans h

omit [FloatOps F] in
/-- The row blocks at some contents. -/
theorem rows_some (f : S2048x64.Idx → Elt F .bf16) :
    bigSep (pend 0) (fun d => rowPts (F := F) c (c + d) f) ⊢ bigSep (pend 0) (fun d => iprop(∃ f, rowPts (F := F) c (c + d) f)) := by
  refine bigSep_mono fun d _ => ?_
  show (rowPts (F := F) c (c + d) f : sProp 𝕄) ⊢ iprop(∃ f, rowPts (F := F) c (c + d) f)
  iintro H
  iexists f
  iexact H

/-- The phase of the signals starts from the duties' tokens and the result's buffer; row block `c` stays. -/
theorem to_sig (f : S2048x64.Idx → Elt F .bf16) (W : Waits sig Unit) :
    iprop(bigSep (pend 0) (fun d => (dutyTok ER (barCell (c + d)) 0 (-d) : sProp 𝕄)) ∗ (((c : Thread nD τ).loc cc0_stg2_0) ↦{fullShare} f)
        ∗ owes (c : Thread nD τ) (O₀ c) W)
      ⊢ iprop(sigPh c 0 ∗ ∃ f, rowPts c c f) := by
  rw [rows_split, from_here c]
  unfold sigPh sigPart O₀
  rw [sep_parts]
  iintro ⟨Ht, ⟨Hc, Hr⟩, HO⟩
  isplitr [Hc]
  · isplitl [Ht Hr]
    · isplitl [Ht]; · iexact Ht
      iapply (rows_some c f) $$ Hr
    · iexists W; iexact HO
  · iexists f; iexact Hc

/-- The phase of the transfers starts from the tiles computed, the landing row blocks and the duties' tokens. -/
theorem to_xfer :
    iprop(tilePh m ρ c 32 ∗ bigSep (pend 0) (fun d => iprop(∃ f, rowPts (F := F) (c + d) c f))
        ∗ bigSep (pend 0) (fun d => (dutyTok ER (sendCell c d) 0 0 : sProp 𝕄)) ∗ bigSep (pend 0) (fun d => (dutyTok ER (recvCell (c + d) d) 0 0 : sProp 𝕄))
        ∗ ∃ W, owes (c : Thread nD τ) (recvDues c (pend 0)) W)
      ⊢ iprop(xferPh m ρ c 0 ∗ tilePts c c (tilesAt m ρ c)) := by
  unfold tilePh xferPh xferPart
  rw [sep_parts, sep_parts, sep_parts, done_zero, bigSep_empty]
  iintro ⟨⟨%f, %hf, Hy⟩, Hr, Hs, Ht, HO⟩
  have hf' := Filled.all m ρ hf
  subst hf'
  ihave Hy := (Entails.of_eq ((tiles_split c (tilesAt m ρ c)).trans (from_here c fun p => tilePts c p (tilesAt m ρ c)))) $$ Hy
  icases Hy with ⟨Hc, Hy⟩
  isplitr [Hc]
  · isplitl [Hy Hr Hs Ht]
    · isplitl [Hy]; · iexact Hy
      isplitl [Hr]; · iexact Hr
      isplitl [Hs] <;> iassumption
    isplitr; · iempintro
    iexact HO
  · iexact Hc

/-- From the transfers to the waits for what was sent. -/
theorem to_sent :
    iprop(xferPh m ρ c 31 ∗ bigSep (pend 0) (fun d => (atPos ER (sendCell c d) 0 ∅ 0 : sProp 𝕄))) ⊢ sentPh m ρ c 0 := by
  unfold xferPh sentPh sentPart
  rw [sep_parts, done_zero, bigSep_empty, done_last, pend_last, pend_zero]
  iintro ⟨⟨-, Hc, HO⟩, Ha⟩
  isplitl [Hc Ha]
  · isplitl [Hc] <;> iassumption
  isplitr; · iempintro
  unfold recvDues
  rw [Finset.sum_empty]
  iexact HO

/-- To the waits for what is received. -/
theorem to_got :
    iprop(sentPh m ρ c 31 ∗ bigSep (pend 0) (fun d => (cred (tallyAt (recvCell c d) () N) : sProp 𝕄))
        ∗ bigSep (pend 0) (fun d => (atPos ER (recvCell c d) 0 ∅ 0 : sProp 𝕄)))
      ⊢ iprop(gotPh m ρ c 0 ∗ bigSep (pend 0) fun d => sentDone m ρ c d) := by
  unfold sentPh gotPh gotPart
  rw [sep_parts, done_zero, bigSep_empty, done_last, pend_zero]
  iintro ⟨⟨-, Hd, HO⟩, Hc, Ha⟩
  isplitr [Hd]
  · isplitl [Hc Ha]
    · isplitl [Hc] <;> iassumption
    isplitr; · iempintro
    iexact HO
  · iexact Hd

/-- At the end: the buffers whole again, every cell past its round. -/
theorem to_end :
    iprop(gotPh m ρ c 31 ∗ bigSep (pend 0) (fun d => sentDone m ρ c d) ∗ ownDone m ρ c)
      ⊢ iprop((((c : Thread nD τ).loc cc0_scratch0) ↦{fullShare} tilesAt m ρ c) ∗ (((c : Thread nD τ).loc cc0_stg2_0) ↦{fullShare} outAt m ρ c)
        ∗ bigSep (pend 0) (fun d => (atPos ER (sendCell c d) 1 ∅ 0 : sProp 𝕄)) ∗ bigSep (pend 0) (fun d => (atPos ER (recvCell c d) 1 ∅ 0 : sProp 𝕄))
        ∗ ∃ W, owes (c : Thread nD τ) 0 W) := by
  rw [tiles_split, rows_split, from_here c fun p => tilePts c p (tilesAt m ρ c), back_from_here c fun p => rowPts c p (outAt m ρ c)]
  unfold gotPh gotDone sentDone ownDone
  rw [sep_parts, sep_parts, done_last, pend_zero]
  iintro ⟨⟨-, ⟨Hr, HaR⟩, HO⟩, ⟨Ht, HaS⟩, Hct, Hcr⟩
  isplitl [Hct Ht]
  · isplitl [Hct] <;> iassumption
  isplitl [Hcr Hr]
  · isplitl [Hcr] <;> iassumption
  isplitl [HaS]; · iexact HaS
  isplitl [HaR] <;> iassumption

variable {m ρ}
variable {K : Dev nD × CI → ℕ}

/-- A DMA cell family closed: every counter is zero. -/
theorem close_cells (g : Fin 32 → CI) (h0 : ∀ r, 0 ≤ r → (sched (F := F) m ρ).duties (kcell (c, g 0)) r = ∅) :
    iprop(records m ρ K ∗ atPos ER (kcell (c, g 0)) 0 ∅ 0 ∗ bigSep (pend 0) (fun d => (atPos ER (kcell (c, g d)) 1 ∅ 0 : sProp 𝕄)))
      ⊢ |={Set.univ}=> bigSep Finset.univ (fun d => (semVal (kcell (c, g d)) 0 : sProp 𝕄)) := by
  rw [zero_apart]
  iintro ⟨#HR, H0, H1⟩
  imod (Rounds.cell_close ER (sched m ρ) (Set.mem_univ (K (c, g 0))) (fun h => h) (R := 0) h0) $$ [H0] with Hz
  · isplitr; · iapply (inv_at m ρ K (c, g 0)); iexact HR
    iexact H0
  ihave H2 := (show iprop(records m ρ K ∗ bigSep (pend 0) (fun d => (atPos ER (kcell (c, g d)) 1 ∅ 0 : sProp 𝕄)))
      ⊢ |={Set.univ}=> bigSep (pend 0) (fun d => (semVal (kcell (c, g d)) 0 : sProp 𝕄)) from
    (bigSep_with_persistent fun d _ => by
      iintro ⟨HR, Ha⟩
      iapply (Rounds.cell_close ER (sched m ρ) (Set.mem_univ (K (c, g d))) (fun h => h) (R := 1) (duties_later m ρ _))
      isplitl [HR]; · iapply (inv_at m ρ K (c, g d)); iexact HR
      iexact Ha).trans (bigSep_fupd _ _)) $$ [H1]
  · isplitr; · iexact HR
    iexact H1
  imod H2 with H2
  imodintro
  isplitl [Hz] <;> iassumption

/-- The barrier's cell closed. -/
theorem close_bar : iprop(records m ρ K ∗ atPos ER (barCell c) 1 ∅ 0) ⊢ |={Set.univ}=> (semVal (barCell c) 0 : sProp 𝕄) := by
  iintro ⟨HR, Ha⟩
  iapply (Rounds.cell_close ER (sched m ρ) (Set.mem_univ (K (kBar c))) (fun h => h) (R := 1) (duties_later m ρ _))
  isplitl [HR]; · iapply (inv_at m ρ K (kBar c)); iexact HR
  iexact Ha

end

end Cert.A2A

end
-- ==== Proof.Body.lean ====
/-
# The all-to-all: the body of the kernel, on any device

The body is printed in 34 parts; it is run from the first to the last, one step at a time.
-/
module

public import proofs.«01_k».proof.Proof.Phases

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What is held besides the phase at hand -/

section
variable (c : Dev nD)

/-- The barrier's credit and position before its wait. -/
def barPart : sProp 𝕄 := iprop(cred (tallyAt (barCell c) () 31) ∗ atPos ER (barCell c) 0 ∅ 0)
/-- The position on the barrier after its wait. -/
def barDone : sProp 𝕄 := atPos ER (barCell c) 1 ∅ 0
/-- The own row block, at some contents. -/
def ownRow : sProp 𝕄 := iprop(∃ f, rowPts (F := F) c c f)
/-- The tokens of the duties the transfers pay. -/
def xferToks : sProp 𝕄 :=
  iprop(bigSep (pend 0) (fun d => (dutyTok ER (sendCell c d) 0 0 : sProp 𝕄)) ∗ bigSep (pend 0) (fun d => (dutyTok ER (recvCell (c + d) d) 0 0 : sProp 𝕄)))
/-- The positions on the send cells; the positions and the credits on the receive cells. -/
def sendAts : sProp 𝕄 := bigSep (pend 0) (fun d => (atPos ER (sendCell c d) 0 ∅ 0 : sProp 𝕄))
/-- The credits and the positions on the receive cells. -/
def recvAts : sProp 𝕄 :=
  iprop(bigSep (pend 0) (fun d => (cred (tallyAt (recvCell c d) () N) : sProp 𝕄)) ∗ bigSep (pend 0) (fun d => (atPos ER (recvCell c d) 0 ∅ 0 : sProp 𝕄)))
/-- What came back from the transfers sent. -/
def sentAll : sProp 𝕄 := bigSep (pend 0) (fun d => sentDone m ρ c d)

/-- What the waits and transfers after the computation use. -/
def later (Z : sProp 𝕄) : sProp 𝕄 := iprop(ownRow c ∗ xferToks c ∗ sendAts c ∗ recvAts c ∗ Z)

/-- After the signals, the staged operands come first, for the loads. -/
theorem sig_to_in (P Z Q : sProp 𝕄) (h : iprop(P ∗ inPts m ρ c ∗ sigPh c 31 ∗ tilePh m ρ c 0 ∗ barPart c ∗ later c Z) ⊢ Q) :
    iprop(P ∗ sigPh c 31 ∗ inPts m ρ c ∗ tilePh m ρ c 0 ∗ barPart c ∗ later c Z) ⊢ Q := by
  iintro ⟨HP, Hs, Hi, Hr⟩
  iapply h
  isplitl [HP]; · iexact HP
  isplitl [Hi]; · iexact Hi
  isplitl [Hs] <;> iassumption

/-- After the loads, the tiles come first, for the stores of the tiles. -/
theorem in_to_tile (P Z Q : sProp 𝕄) (h : iprop(P ∗ tilePh m ρ c 0 ∗ (barPart c ∗ sigPh c 31) ∗ inPts m ρ c ∗ later c Z) ⊢ Q) :
    iprop(P ∗ inPts m ρ c ∗ sigPh c 31 ∗ tilePh m ρ c 0 ∗ barPart c ∗ later c Z) ⊢ Q := by
  iintro ⟨HP, Hi, Hs, Ht, Hb, Hr⟩
  iapply h
  isplitl [HP]; · iexact HP
  isplitl [Ht]; · iexact Ht
  isplitl [Hs Hb]
  · isplitl [Hb] <;> iassumption
  isplitl [Hi] <;> iassumption

/-- After the stores of the tiles, what the wait at the barrier takes comes first. -/
theorem tile_to_bar (P Z Q : sProp 𝕄) (h : iprop(P ∗ (cred (tallyAt (barCell c) () 31) ∗ atPos ER (barCell c) 0 ∅ 0 ∗ sigPh c 31) ∗ tilePh m ρ c 32 ∗ inPts m ρ c ∗ later c Z) ⊢ Q) :
    iprop(P ∗ tilePh m ρ c 32 ∗ (barPart c ∗ sigPh c 31) ∗ inPts m ρ c ∗ later c Z) ⊢ Q := by
  unfold barPart
  iintro ⟨HP, Ht, ⟨⟨Hc, Ha⟩, Hs⟩, Hi, Hr⟩
  iapply h
  isplitl [HP]; · iexact HP
  isplitl [Hc Ha Hs]
  · isplitl [Hc]; · iexact Hc
    isplitl [Ha] <;> iassumption
  isplitl [Ht]; · iexact Ht
  isplitl [Hi] <;> iassumption

/-- The wait at the barrier gives row block `c` of every other device, and with it what the transfers take. -/
theorem bar_to_xfer (P Z Q : sProp 𝕄) (h : iprop(P ∗ xferPh m ρ c 0 ∗ ownPart m ρ c ∗ inPts m ρ c ∗ barDone c ∗ sendAts c ∗ recvAts c ∗ Z) ⊢ Q) :
    iprop(P ∗ (bigSep (pend 0) (fun d => iprop(∃ f, rowPts (F := F) (c + d) c f)) ∗ atPos ER (barCell c) 1 ∅ 0
        ∗ ∃ W, owes (c : Thread nD τ) (recvDues c (pend 0)) W) ∗ tilePh m ρ c 32 ∗ inPts m ρ c ∗ later c Z) ⊢ Q := by
  unfold later xferToks ownRow
  iintro ⟨HP, ⟨Hrows, Ha, HO⟩, Ht, Hi, Hown, ⟨HtS, HtR⟩, HaS, HaR, HZ⟩
  ihave Hx := (to_xfer m ρ c) $$ [Hrows HO Ht HtS HtR]
  · isplitl [Ht]; · iexact Ht
    isplitl [Hrows]; · iexact Hrows
    isplitl [HtS]; · iexact HtS
    isplitl [HtR] <;> iassumption
  icases Hx with ⟨Hx, Hc⟩
  iapply h
  isplitl [HP]; · iexact HP
  isplitl [Hx]; · iexact Hx
  isplitl [Hc Hown]
  · unfold ownPart
    isplitl [Hc] <;> iassumption
  isplitl [Hi]; · iexact Hi
  isplitl [Ha]; · unfold barDone; iexact Ha
  isplitl [HaS]; · iexact HaS
  isplitl [HaR] <;> iassumption

/-- After the transfers are issued, the own tile and row block come first, for the copy between them. -/
theorem xfer_to_own (P Z Q : sProp 𝕄) (h : iprop(P ∗ ownPart m ρ c ∗ xferPh m ρ c 31 ∗ inPts m ρ c ∗ barDone c ∗ sendAts c ∗ recvAts c ∗ Z) ⊢ Q) :
    iprop(P ∗ xferPh m ρ c 31 ∗ ownPart m ρ c ∗ inPts m ρ c ∗ barDone c ∗ sendAts c ∗ recvAts c ∗ Z) ⊢ Q := by
  iintro ⟨HP, Hx, Ho, Hr⟩
  iapply h
  isplitl [HP]; · iexact HP
  isplitl [Ho]; · iexact Ho
  isplitl [Hx] <;> iassumption

/-- After that copy, what the waits for the transfers sent take comes first. -/
theorem own_to_sent (P Z Q : sProp 𝕄) (h : iprop(P ∗ sentPh m ρ c 0 ∗ ownDone m ρ c ∗ inPts m ρ c ∗ barDone c ∗ recvAts c ∗ Z) ⊢ Q) :
    iprop(P ∗ ownDone m ρ c ∗ xferPh m ρ c 31 ∗ inPts m ρ c ∗ barDone c ∗ sendAts c ∗ recvAts c ∗ Z) ⊢ Q := by
  unfold sendAts
  iintro ⟨HP, Ho, Hx, Hi, Hb, HaS, Hr⟩
  ihave Hs := (to_sent m ρ c) $$ [Hx HaS]
  · isplitl [Hx] <;> iassumption
  iapply h
  isplitl [HP]; · iexact HP
  isplitl [Hs]; · iexact Hs
  isplitl [Ho]; · iexact Ho
  isplitl [Hi]; · iexact Hi
  isplitl [Hb] <;> iassumption

/-- After those waits, what the waits for the transfers received take comes first. -/
theorem sent_to_got (P Z Q : sProp 𝕄) (h : iprop(P ∗ gotPh m ρ c 0 ∗ sentAll m ρ c ∗ ownDone m ρ c ∗ inPts m ρ c ∗ barDone c ∗ Z) ⊢ Q) :
    iprop(P ∗ sentPh m ρ c 31 ∗ ownDone m ρ c ∗ inPts m ρ c ∗ barDone c ∗ recvAts c ∗ Z) ⊢ Q := by
  unfold recvAts
  iintro ⟨HP, Hs, Ho, Hi, Hb, ⟨Hc, Ha⟩, HZ⟩
  ihave Hg := (to_got m ρ c) $$ [Hs Hc Ha]
  · isplitl [Hs]; · iexact Hs
    isplitl [Hc] <;> iassumption
  icases Hg with ⟨Hg, Hd⟩
  iapply h
  isplitl [HP]; · iexact HP
  isplitl [Hg]; · iexact Hg
  isplitl [Hd]; · unfold sentAll; iexact Hd
  isplitl [Ho]; · iexact Ho
  isplitl [Hi]; · iexact Hi
  isplitl [Hb] <;> iassumption

end

/-! ## The run -/

variable (K : Dev nD × CI → ℕ) (c : Dev nD)

set_option maxHeartbeats 4000000 in
set_option maxRecDepth 65536 in
/-- The body run from the first signal to the last wait: what it leaves is what `hfin` starts from. -/
theorem body_run {Z : sProp 𝕄} {Q : PUnit → sProp 𝕄}
    (hfin : iprop(records m ρ K ∗ gotPh m ρ c 31 ∗ sentAll m ρ c ∗ ownDone m ρ c ∗ inPts m ρ c ∗ barDone c ∗ Z)
      ⊢ wp frame (wpE (defs₀ (F := F)) 𝒱₀ (c : Thread nD τ) none) Set.univ (.ret ⟨⟩) Q) :
    iprop(records m ρ K ∗ sigPh c 0 ∗ inPts m ρ c ∗ tilePh m ρ c 0 ∗ barPart c ∗ later c Z)
      ⊢ wp frame (wpE (defs₀ (F := F)) 𝒱₀ (c : Thread nD τ) none) Set.univ
        (cc0_body (F := F) xM (Memref.isWhole_whole _) wM (Memref.isWhole_whole _) oM (Memref.isWhole_whole _)
          yM (Memref.isWhole_whole _) cc0_scratch1 cc0_scratch2) Q := by
  simp only [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  iterate 4 refine sig_step ⟨_, by decide⟩ rfl (by generalize c = c'; revert c'; decide +kernel) rfl (by decide) ?_
  rw [k0_part2_eq_skeleton]; unfold k0_part2_skel
  simp only [semSignalWord, semWaitWord, Prog.lift, Prog.bind_op, Prog.bind_ret, Prog.pure_eq_ret, wp_deviceId]
  iterate 4 refine sig_step ⟨_, by decide⟩ rfl (by generalize c = c'; revert c'; decide +kernel) rfl (by decide) ?_
  rw [k0_part3_eq_skeleton]; unfold k0_part3_skel
  simp only [semSignalWord, semWaitWord, Prog.lift, Prog.bind_op, Prog.bind_ret, Prog.pure_eq_ret, wp_deviceId]
  iterate 5 refine sig_step ⟨_, by decide⟩ rfl (by generalize c = c'; revert c'; decide +kernel) rfl (by decide) ?_
  rw [k0_part4_eq_skeleton]; unfold k0_part4_skel
  simp only [semSignalWord, semWaitWord, Prog.lift, Prog.bind_op, Prog.bind_ret, Prog.pure_eq_ret, wp_deviceId]
  iterate 4 refine sig_step ⟨_, by decide⟩ rfl (by generalize c = c'; revert c'; decide +kernel) rfl (by decide) ?_
  rw [k0_part5_eq_skeleton]; unfold k0_part5_skel
  simp only [semSignalWord, semWaitWord, Prog.lift, Prog.bind_op, Prog.bind_ret, Prog.pure_eq_ret, wp_deviceId]
  iterate 5 refine sig_step ⟨_, by decide⟩ rfl (by generalize c = c'; revert c'; decide +kernel) rfl (by decide) ?_
  rw [k0_part6_eq_skeleton]; unfold k0_part6_skel
  simp only [semSignalWord, semWaitWord, Prog.lift, Prog.bind_op, Prog.bind_ret, Prog.pure_eq_ret, wp_deviceId]
  iterate 5 refine sig_step ⟨_, by decide⟩ rfl (by generalize c = c'; revert c'; decide +kernel) rfl (by decide) ?_
  rw [k0_part7_eq_skeleton]; unfold k0_part7_skel
  simp only [semSignalWord, semWaitWord, Prog.lift, Prog.bind_op, Prog.bind_ret, Prog.pure_eq_ret, wp_deviceId]
  iterate 4 refine sig_step ⟨_, by decide⟩ rfl (by generalize c = c'; revert c'; decide +kernel) rfl (by decide) ?_
  refine sig_to_in m ρ c _ _ _ ?_
  refine in_step ?_
  refine in_to_tile m ρ c _ _ _ ?_
  rw [k0_part8_eq_skeleton]; unfold k0_part8_skel
  simp only [semSignalWord, semWaitWord, Prog.lift, Prog.bind_op, Prog.bind_ret, Prog.pure_eq_ret, wp_deviceId]
  iterate 7 (refine tile_load fun _ => ?_; refine tile_store ⟨_, by decide⟩ rfl rfl rfl ?_)
  rw [k0_part9_eq_skeleton]; unfold k0_part9_skel
  simp only [semSignalWord, semWaitWord, Prog.lift, Prog.bind_op, Prog.bind_ret, Prog.pure_eq_ret, wp_deviceId]
  iterate 7 (refine tile_load fun _ => ?_; refine tile_store ⟨_, by decide⟩ rfl rfl rfl ?_)
  refine tile_load fun _ => ?_
  rw [k0_part10_eq_skeleton]; unfold k0_part10_skel
  simp only [semSignalWord, semWaitWord, Prog.lift, Prog.bind_op, Prog.bind_ret, Prog.pure_eq_ret, wp_deviceId]
  refine tile_store ⟨_, by decide⟩ rfl rfl rfl ?_
  iterate 7 (refine tile_load fun _ => ?_; refine tile_store ⟨_, by decide⟩ rfl rfl rfl ?_)
  rw [k0_part11_eq_skeleton]; unfold k0_part11_skel
  simp only [semSignalWord, semWaitWord, Prog.lift, Prog.bind_op, Prog.bind_ret, Prog.pure_eq_ret, wp_deviceId]
  iterate 7 (refine tile_load fun _ => ?_; refine tile_store ⟨_, by decide⟩ rfl rfl rfl ?_)
  refine tile_load fun _ => ?_
  rw [k0_part12_eq_skeleton]; unfold k0_part12_skel
  simp only [semSignalWord, semWaitWord, Prog.lift, Prog.bind_op, Prog.bind_ret, Prog.pure_eq_ret, wp_deviceId]
  refine tile_store ⟨_, by decide⟩ rfl rfl rfl ?_
  iterate 2 (refine tile_load fun _ => ?_; refine tile_store ⟨_, by decide⟩ rfl rfl rfl ?_)
  refine tile_to_bar m ρ c _ _ _ ?_
  refine bar_step rfl (by decide) ?_
  refine bar_to_xfer m ρ c _ _ _ ?_
  iterate 2 refine xfer_step ⟨_, by decide⟩ rfl (by generalize c = c'; revert c'; decide +kernel) rfl rfl (by generalize c = c'; revert c'; decide +kernel) (k0_off1_eq c) ?_
  rw [k0_part13_eq_skeleton]; unfold k0_part13_skel
  simp only [semSignalWord, semWaitWord, Prog.lift, Prog.bind_op, Prog.bind_ret, Prog.pure_eq_ret, wp_deviceId]
  iterate 3 refine xfer_step ⟨_, by decide⟩ rfl (by generalize c = c'; revert c'; decide +kernel) rfl rfl (by generalize c = c'; revert c'; decide +kernel) (k0_off1_eq c) ?_
  rw [k0_part14_eq_skeleton]; unfold k0_part14_skel
  simp only [semSignalWord, semWaitWord, Prog.lift, Prog.bind_op, Prog.bind_ret, Prog.pure_eq_ret, wp_deviceId]
  iterate 4 refine xfer_step ⟨_, by decide⟩ rfl (by generalize c = c'; revert c'; decide +kernel) rfl rfl (by generalize c = c'; revert c'; decide +kernel) (k0_off1_eq c) ?_
  rw [k0_part15_eq_skeleton]; unfold k0_part15_skel
  simp only [semSignalWord, semWaitWord, Prog.lift, Prog.bind_op, Prog.bind_ret, Prog.pure_eq_ret, wp_deviceId]
  iterate 3 refine xfer_step ⟨_, by decide⟩ rfl (by generalize c = c'; revert c'; decide +kernel) rfl rfl (by generalize c = c'; revert c'; decide +kernel) (k0_off1_eq c) ?_
  rw [k0_part16_eq_skeleton]; unfold k0_part16_skel
  simp only [semSignalWord, semWaitWord, Prog.lift, Prog.bind_op, Prog.bind_ret, Prog.pure_eq_ret, wp_deviceId]
  iterate 4 refine xfer_step ⟨_, by decide⟩ rfl (by generalize c = c'; revert c'; decide +kernel) rfl rfl (by generalize c = c'; revert c'; decide +kernel) (k0_off1_eq c) ?_
  rw [k0_part17_eq_skeleton]; unfold k0_part17_skel
  simp only [semSignalWord, semWaitWord, Prog.lift, Prog.bind_op, Prog.bind_ret, Prog.pure_eq_ret, wp_deviceId]
  iterate 3 refine xfer_step ⟨_, by decide⟩ rfl (by generalize c = c'; revert c'; decide +kernel) rfl rfl (by generalize c = c'; revert c'; decide +kernel) (k0_off1_eq c) ?_
  rw [k0_part18_eq_skeleton]; unfold k0_part18_skel
  simp only [semSignalWord, semWaitWord, Prog.lift, Prog.bind_op, Prog.bind_ret, Prog.pure_eq_ret, wp_deviceId]
  iterate 4 refine xfer_step ⟨_, by decide⟩ rfl (by generalize c = c'; revert c'; decide +kernel) rfl rfl (by generalize c = c'; revert c'; decide +kernel) (k0_off1_eq c) ?_
  rw [k0_part19_eq_skeleton]; unfold k0_part19_skel
  simp only [semSignalWord, semWaitWord, Prog.lift, Prog.bind_op, Prog.bind_ret, Prog.pure_eq_ret, wp_deviceId]
  iterate 3 refine xfer_step ⟨_, by decide⟩ rfl (by generalize c = c'; revert c'; decide +kernel) rfl rfl (by generalize c = c'; revert c'; decide +kernel) (k0_off1_eq c) ?_
  rw [k0_part20_eq_skeleton]; unfold k0_part20_skel
  simp only [semSignalWord, semWaitWord, Prog.lift, Prog.bind_op, Prog.bind_ret, Prog.pure_eq_ret, wp_deviceId]
  iterate 4 refine xfer_step ⟨_, by decide⟩ rfl (by generalize c = c'; revert c'; decide +kernel) rfl rfl (by generalize c = c'; revert c'; decide +kernel) (k0_off1_eq c) ?_
  rw [k0_part21_eq_skeleton]; unfold k0_part21_skel
  simp only [semSignalWord, semWaitWord, Prog.lift, Prog.bind_op, Prog.bind_ret, Prog.pure_eq_ret, wp_deviceId]
  refine xfer_step ⟨_, by decide⟩ rfl (by generalize c = c'; revert c'; decide +kernel) rfl rfl (by generalize c = c'; revert c'; decide +kernel) (k0_off1_eq c) ?_
  refine xfer_to_own m ρ c _ _ _ ?_
  refine own_step (k0_off3_eq c) (k0_off4_eq c) ?_
  refine own_to_sent m ρ c _ _ _ ?_
  iterate 3 refine sent_step ⟨_, by decide⟩ rfl rfl rfl ?_
  rw [k0_part22_eq_skeleton]; unfold k0_part22_skel
  simp only [semSignalWord, semWaitWord, Prog.lift, Prog.bind_op, Prog.bind_ret, Prog.pure_eq_ret, wp_deviceId]
  iterate 5 refine sent_step ⟨_, by decide⟩ rfl rfl rfl ?_
  rw [k0_part23_eq_skeleton]; unfold k0_part23_skel
  simp only [semSignalWord, semWaitWord, Prog.lift, Prog.bind_op, Prog.bind_ret, Prog.pure_eq_ret, wp_deviceId]
  iterate 5 refine sent_step ⟨_, by decide⟩ rfl rfl rfl ?_
  rw [k0_part24_eq_skeleton]; unfold k0_part24_skel
  simp only [semSignalWord, semWaitWord, Prog.lift, Prog.bind_op, Prog.bind_ret, Prog.pure_eq_ret, wp_deviceId]
  iterate 5 refine sent_step ⟨_, by decide⟩ rfl rfl rfl ?_
  rw [k0_part25_eq_skeleton]; unfold k0_part25_skel
  simp only [semSignalWord, semWaitWord, Prog.lift, Prog.bind_op, Prog.bind_ret, Prog.pure_eq_ret, wp_deviceId]
  iterate 5 refine sent_step ⟨_, by decide⟩ rfl rfl rfl ?_
  rw [k0_part26_eq_skeleton]; unfold k0_part26_skel
  simp only [semSignalWord, semWaitWord, Prog.lift, Prog.bind_op, Prog.bind_ret, Prog.pure_eq_ret, wp_deviceId]
  iterate 5 refine sent_step ⟨_, by decide⟩ rfl rfl rfl ?_
  rw [k0_part27_eq_skeleton]; unfold k0_part27_skel
  simp only [semSignalWord, semWaitWord, Prog.lift, Prog.bind_op, Prog.bind_ret, Prog.pure_eq_ret, wp_deviceId]
  iterate 3 refine sent_step ⟨_, by decide⟩ rfl rfl rfl ?_
  refine sent_to_got m ρ c _ _ _ ?_
  refine got_step ⟨_, by decide⟩ rfl rfl rfl ?_
  rw [k0_part28_eq_skeleton]; unfold k0_part28_skel
  simp only [semSignalWord, semWaitWord, Prog.lift, Prog.bind_op, Prog.bind_ret, Prog.pure_eq_ret, wp_deviceId]
  iterate 4 refine got_step ⟨_, by decide⟩ rfl rfl rfl ?_
  rw [k0_part29_eq_skeleton]; unfold k0_part29_skel
  simp only [semSignalWord, semWaitWord, Prog.lift, Prog.bind_op, Prog.bind_ret, Prog.pure_eq_ret, wp_deviceId]
  iterate 4 refine got_step ⟨_, by decide⟩ rfl rfl rfl ?_
  rw [k0_part30_eq_skeleton]; unfold k0_part30_skel
  simp only [semSignalWord, semWaitWord, Prog.lift, Prog.bind_op, Prog.bind_ret, Prog.pure_eq_ret, wp_deviceId]
  iterate 4 refine got_step ⟨_, by decide⟩ rfl rfl rfl ?_
  rw [k0_part31_eq_skeleton]; unfold k0_part31_skel
  simp only [semSignalWord, semWaitWord, Prog.lift, Prog.bind_op, Prog.bind_ret, Prog.pure_eq_ret, wp_deviceId]
  iterate 4 refine got_step ⟨_, by decide⟩ rfl rfl rfl ?_
  rw [k0_part32_eq_skeleton]; unfold k0_part32_skel
  simp only [semSignalWord, semWaitWord, Prog.lift, Prog.bind_op, Prog.bind_ret, Prog.pure_eq_ret, wp_deviceId]
  iterate 4 refine got_step ⟨_, by decide⟩ rfl rfl rfl ?_
  rw [k0_part33_eq_skeleton]; unfold k0_part33_skel
  simp only [semSignalWord, semWaitWord, Prog.lift, Prog.bind_op, Prog.bind_ret, Prog.pure_eq_ret, wp_deviceId]
  iterate 4 refine got_step ⟨_, by decide⟩ rfl rfl rfl ?_
  rw [k0_part34_eq_skeleton]; unfold k0_part34_skel
  simp only [semSignalWord, semWaitWord, Prog.lift, Prog.bind_op, Prog.bind_ret, Prog.pure_eq_ret, wp_deviceId]
  iterate 4 refine got_step ⟨_, by decide⟩ rfl rfl rfl ?_
  iterate 2 refine got_step ⟨_, by decide⟩ rfl rfl rfl ?_
  exact hfin

end Cert.A2A

end
-- ==== Proof.Grant.lean ====
/-
# The all-to-all: what the launch gives each device

The launch makes, for every device, its barrier's, send and receive cells and the tokens of their duties. Here the cells'
invariants are set up, the tokens are dealt to the devices that pay the duties, and each device's launch credits are read
off from what all the devices owe.
-/
module

public import proofs.«01_k».proof.Proof.Phases

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The two arrays are semaphores of the kernel's own, each named once. -/
theorem ownSemFacts : Pipeline.OwnSemFacts cfg0.spec osem := by decide +kernel

/-- Different indices name different semaphores, -/
theorem csem_injective : Function.Injective csem := by
  rintro (⟨⟩ | d | d) (⟨⟩ | d' | d') h
  · rfl
  · exact absurd h (by intro h; cases h)
  · exact absurd h (by intro h; cases h)
  · exact absurd h (by intro h; cases h)
  · have h1 : 3 + d.val = 3 + d'.val := congrArg Fin.val (SemLoc.dma.inj h)
    rw [Fin.ext (Nat.add_left_cancel h1)]
  · have h1 : 3 + d.val = 35 + d'.val := congrArg Fin.val (SemLoc.dma.inj h)
    have h2 := d.isLt; omega
  · exact absurd h (by intro h; cases h)
  · have h1 : 35 + d.val = 3 + d'.val := congrArg Fin.val (SemLoc.dma.inj h)
    have h2 := d'.isLt; omega
  · have h1 : 35 + d.val = 35 + d'.val := congrArg Fin.val (SemLoc.dma.inj h)
    rw [Fin.ext (Nat.add_left_cancel h1)]

/-- and different pairs different cells. -/
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every device's cells. -/
def cells : Finset (GSem nD τ sig) := Finset.univ.map ⟨kcell, kcell_injective⟩

/-- The tokens of a device's own cells: one per `d` on its barrier, one on each send and receive cell. -/
abbrev TI : Type := Fin 32 ⊕ (Fin 32 ⊕ Fin 32)
/-- The index of the token's cell, -/
abbrev tokCell : TI → CI := fun | .inl _ => .inl () | .inr j => .inr j
/-- the name of its duty, -/
abbrev tokName : TI → Fin 32 := fun | .inl d => d | .inr _ => 0
/-- and the token itself. -/
abbrev tokOf (cj : Dev nD × TI) : GSem nD τ sig × ℕ × Fin 32 := (kcell (cj.1, tokCell cj.2), 0, tokName cj.2)

/-- The tokens are different. -/
theorem tokOf_injective : Function.Injective tokOf := by
  rintro ⟨c, j⟩ ⟨c', j'⟩ h
  have hk := kcell_injective (congrArg Prod.fst h)
  have hn : tokName j = tokName j' := congrArg (fun x : GSem nD τ sig × ℕ × Fin 32 => x.2.2) h
  have h1 : c = c' := congrArg Prod.fst hk
  have h2 : tokCell j = tokCell j' := congrArg Prod.snd hk
  have h3 : j = j' := by
    rcases j with d | j <;> rcases j' with d' | j'
    · exact congrArg Sum.inl hn
    · cases h2
    · cases h2
    · exact congrArg Sum.inr (Sum.inr.inj h2)
  rw [h1, h3]

/-- All the tokens. -/
def tokens : Finset (GSem nD τ sig × ℕ × Fin 32) := Finset.univ.map ⟨tokOf, tokOf_injective⟩

/-- What the launch starts from: the pipeline's cells and tokens, and these. -/
def u₀ : UU := (initOf (Pipeline.cells cfgs cellOf_inj) (Pipeline.launchToks cfgs cellOf_inj), initOf cells tokens)

/-- The tokens of device `c`'s own cells, -/
def toks (c : Dev nD) : sProp 𝕄 :=
  iprop((bigSep Finset.univ fun d : Fin 32 => dutyTok ER (barCell c) 0 d)
    ∗ (bigSep Finset.univ fun d : Fin 32 => dutyTok ER (sendCell c d) 0 0) ∗ bigSep Finset.univ fun d : Fin 32 => dutyTok ER (recvCell c d) 0 0)
/-- and those of the duties device `c` pays. -/
def payToks (c : Dev nD) : sProp 𝕄 :=
  iprop((bigSep Finset.univ fun d : Fin 32 => dutyTok ER (barCell (c + d)) 0 (-d))
    ∗ (bigSep Finset.univ fun d : Fin 32 => dutyTok ER (sendCell c d) 0 0) ∗ bigSep Finset.univ fun d : Fin 32 => dutyTok ER (recvCell (c + d) d) 0 0)

/-- Device `c`'s positions on its cells. -/
def ats (c : Dev nD) : sProp 𝕄 := bigSep Finset.univ fun k : CI => atPos ER (kcell (c, k)) 0 ∅ 0

/-- What device `c` has first, -/
def G (c : Dev nD) : sProp 𝕄 :=
  iprop((bigSep Finset.univ fun k : CI => roundState ER (sched m ρ) (kcell (c, k)) 0)
    ∗ (ats c ∗ bigSep Finset.univ fun k : CI => reached ER (kcell (c, k)) 0) ∗ toks c)
/-- and what it has when the invariants are set up and the tokens dealt. -/
def known (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)
/-- What device `c` has next: the shared knowledge, its positions and the tokens of the duties it pays. -/
def G' (c : Dev nD) : sProp 𝕄 := iprop(∃ K, known m ρ K ∗ ats c ∗ payToks c)

/-- The shared knowledge may be used any number of times. -/
instance known_persistent (K : Dev nD × CI → ℕ) : BI.Persistent (known (F := F) m ρ K) := by unfold known; infer_instance

omit [FloatOps F] in
/-- All the cells are those of each device. -/
theorem over_cells (Φ : GSem nD τ sig → sProp 𝕄) :
    bigSep cells Φ = bigSep Finset.univ fun c : Dev nD => bigSep Finset.univ fun k : CI => Φ (kcell (c, k)) := by
  unfold cells; rw [bigSep_map, bigSep_univ_prod]; rfl

omit [FloatOps F] in
/-- All the tokens are those of each device. -/
theorem over_tokens : bigSep tokens (fun x => (dutyTok ER x.1 x.2.1 x.2.2 : sProp 𝕄)) = bigSep Finset.univ fun c : Dev nD => toks c := by
  unfold tokens; rw [bigSep_map, bigSep_univ_prod]
  exact bigSep_congr fun c _ => by unfold toks; rw [bigSep_univ_sum, bigSep_univ_sum]; rfl

/-- The all-to-all's resources are, on every device, what it has first. -/
theorem fund_cells : BI.own (ER (initOf cells tokens)) ⊢ (|==> bigSep Finset.univ (G m ρ) : sProp 𝕄) := by
  iintro HX
  imod (Rounds.fund ER (sched m ρ) cells tokens) $$ HX with ⟨Hst, Hr, Hat, Htok⟩
  imodintro
  ihave Hst := (Entails.of_eq (over_cells fun g => roundState ER (sched m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_tokens) $$ Htok
  unfold G ats; simp only [bigSep_sep']
  isplitl [Hst]; · iexact Hst
  isplitl [Hat Hr]
  · isplitl [Hat] <;> iassumption
  iexact Htok

/-! ## The semaphores and the invariants -/

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem ownSems0_eq (c : Dev nD) :
    (Pipeline.ownSems0 (Ix := Unit) (Name := ℕ) (U := UU) (Lvl := ℕ) (Val := Elt F) (τ := τ) osem c : sProp 𝕄)
      = iprop((bigSep Finset.univ fun d => semVal (sendCell c d) 0) ∗ bigSep Finset.univ fun d => semVal (recvCell c d) 0) := by
  unfold Pipeline.ownSems0; rw [bigSep_univ_sum]; rfl

omit [FloatOps F] in
/-- A device's cells: its barrier's and the two arrays'. -/
theorem over_CI (Φ : CI → sProp 𝕄) :
    bigSep Finset.univ Φ = iprop(Φ (.inl ()) ∗ (bigSep Finset.univ fun d => Φ (.inr (.inl d))) ∗ bigSep Finset.univ fun d => Φ (.inr (.inr d))) := by
  rw [bigSep_univ_sum, bigSep_univ_sum, show (Finset.univ : Finset Unit) = {()} from rfl, bigSep_singleton]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, over_CI]
  iintro ⟨⟨HS, HV⟩, HB⟩
  isplitl [HB]; · iexact HB
  isplitl [HS] <;> iassumption

/-- One device's invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (sched m ρ) κ (kcell (c, k))))
          ∗ (ats c ∗ bigSep Finset.univ fun k : CI => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens dealt -/

/-- Duty `d` of device `c`'s barrier is device `c + d`'s, whose signal has number `-d`; -/
def barDeal : Dev nD × Fin 32 ≃ Dev nD × Fin 32 where
  toFun x := (x.1 + x.2, -x.2)
  invFun x := (x.1 + x.2, -x.2)
  left_inv x := Prod.ext (add_neg_cancel_right _ _) (neg_neg _)
  right_inv x := Prod.ext (add_neg_cancel_right _ _) (neg_neg _)
/-- the duty of device `c + d`'s receive cell `d` is device `c`'s. -/
def recvDeal : Dev nD × Fin 32 ≃ Dev nD × Fin 32 where
  toFun x := (x.1 + x.2, x.2)
  invFun x := (x.1 - x.2, x.2)
  left_inv x := Prod.ext (add_sub_cancel_right _ _) rfl
  right_inv x := Prod.ext (sub_add_cancel _ _) rfl

omit [FloatOps F] in
/-- A family over the devices and the steps, dealt. -/
theorem deal (e : Dev nD × Fin 32 ≃ Dev nD × Fin 32) (Φ : Dev nD × Fin 32 → sProp 𝕄) :
    (bigSep Finset.univ fun c : Dev nD => bigSep Finset.univ fun d : Fin 32 => Φ (c, d))
      = bigSep Finset.univ fun c : Dev nD => bigSep Finset.univ fun d : Fin 32 => Φ (e (c, d)) :=
  (bigSep_univ_prod Φ).symm.trans ((bigSep_univ_equiv e Φ).trans (bigSep_univ_prod fun x => Φ (e x)))

omit [FloatOps F] in
/-- Every cell's tokens, dealt to the devices which pay them. -/
theorem toks_dealt : (bigSep Finset.univ fun c : Dev nD => (toks c : sProp 𝕄)) = bigSep Finset.univ fun c : Dev nD => payToks c := by
  unfold toks payToks
  rw [bigSep_sep', bigSep_sep', bigSep_sep', bigSep_sep', deal barDeal (fun x => dutyTok ER (barCell x.1) 0 x.2),
    deal recvDeal (fun x => dutyTok ER (recvCell x.1 x.2) 0 0)]
  rfl

/-- With the invariants of all the cells set up, every device knows all of them. -/
theorem regroup :
    (bigSep Finset.univ fun c : Dev nD => iprop((bigSep Finset.univ fun k : CI => iprop(∃ κ : ℕ, cellInv ER (sched m ρ) κ (kcell (c, k))))
          ∗ (ats c ∗ bigSep Finset.univ fun k : CI => reached ER (kcell (c, k)) 0) ∗ toks c) : sProp 𝕄)
      ⊢ bigSep Finset.univ (G' m ρ) := by
  rw [bigSep_sep', bigSep_sep', bigSep_sep', toks_dealt, ← bigSep_univ_prod (fun ck : Dev nD × CI => iprop(∃ κ : ℕ, cellInv ER (sched m ρ) κ (kcell ck))),
    ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (sched m ρ) κ (kcell ck) : sProp 𝕄))) $$ HI
  icases HK with ⟨%K, HI⟩
  iapply (bigSep_with_persistent (R := known m ρ K) (Φ := fun c => iprop(ats c ∗ payToks c)) fun c _ => by
    unfold G'
    iintro H
    iexists K
    iexact H)
  isplitl [HI HR]
  · unfold known
    isplitl [HI] <;> iassumption
  · rw [bigSep_sep']
    isplitl [Hat] <;> iassumption

/-- All the devices' semaphores and what they have first, into what they have next. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

/-- One entry of a tally. -/
theorem tally_unit (g g' : GSem nD τ sig) (n : ℕ) : (tallyAt g () n : CellTallies nD τ sig Unit) g' () = if g = g' then n else 0 := by
  rw [tallyAt_apply]
  exact if_congr ⟨fun h => h.1.symm, fun h => ⟨h.symm, rfl⟩⟩ rfl rfl

/-- What device `e` owes a cell. -/
theorem owed_apply (e : Dev nD) (g : GSem nD τ sig) :
    O₀ e g () = (∑ d ∈ pend 0, if recvCell (e + d) d = g then N else 0) + ∑ d ∈ pend 0, if barCell (e + d) = g then 1 else 0 := by
  unfold O₀ recvDues barDues
  rw [Pi.add_apply, Finsupp.add_apply, Finset.sum_apply, Finset.sum_apply, Finsupp.finsetSum_apply, Finsupp.finsetSum_apply]
  exact congrArg₂ (· + ·) (Finset.sum_congr rfl fun d _ => tally_unit _ _ _) (Finset.sum_congr rfl fun d _ => tally_unit _ _ _)

/-- Exactly one device is `d` before device `c`. -/
theorem sum_one_dev (c : Dev nD) (d : Fin 32) (n : ℕ) : (∑ e : Dev nD, if e + d = c then n else 0) = n := by
  have h (e : Dev nD) : (if e + d = c then n else 0) = if e = c - d then n else 0 := if_congr eq_sub_iff_add_eq.symm rfl rfl
  rw [Finset.sum_congr rfl fun e _ => h e, Finset.sum_ite_eq', if_pos (Finset.mem_univ _)]

/-- Barrier cells agree only on one device, -/
theorem bar_inj {a c : Dev nD} : Iff (barCell a = barCell c) (a = c) :=
  ⟨fun h => congrArg (fun g : GSem nD τ sig => g.1.1) h, fun h => h ▸ rfl⟩
/-- receive cells only on one device and number, -/
theorem recv_inj {a c : Dev nD} {d d' : Fin 32} : Iff (recvCell a d = recvCell c d') (a = c ∧ d = d') := by
  refine ⟨fun h => ?_, fun ⟨h1, h2⟩ => by rw [h1, h2]⟩
  have h' := kcell_injective (a₁ := kRecv a d) (a₂ := kRecv c d') h
  exact ⟨congrArg Prod.fst h', Sum.inr.inj (Sum.inr.inj (congrArg Prod.snd h'))⟩
/-- and a receive cell is no barrier cell. -/
theorem recv_ne_bar (a c : Dev nD) (d : Fin 32) : recvCell a d ≠ barCell c := fun h => by
  cases congrArg Prod.snd (kcell_injective (a₁ := kRecv a d) (a₂ := kBar c) h)

/-- Together the devices owe 31 units to device `c`'s barrier, -/
theorem owed_bar (c : Dev nD) : (∑ e : Dev nD, O₀ e (barCell c) ()) = 31 := by
  rw [Finset.sum_congr rfl fun e _ => (owed_apply e (barCell c)).trans (congrArg₂ (· + ·)
      (Finset.sum_eq_zero fun d _ => if_neg (recv_ne_bar _ _ _)) (Finset.sum_congr rfl fun d _ => if_congr bar_inj rfl rfl))]
  simp only [Nat.zero_add]
  rw [Finset.sum_comm, Finset.sum_congr rfl fun d _ => sum_one_dev c d 1, Finset.sum_const]
  rfl

/-- and one tile's credit to its receive cell `d`. -/
theorem owed_recv (c : Dev nD) (d : Fin 32) (hd : d ∈ pend 0) : (∑ e : Dev nD, O₀ e (recvCell c d) ()) = N := by
  have h1 (e : Dev nD) : O₀ e (recvCell c d) () = if e + d = c then N else 0 := by
    rw [owed_apply, Finset.sum_eq_zero (f := fun d' => if barCell (e + d') = recvCell c d then 1 else 0) fun d' _ => if_neg fun h => recv_ne_bar _ _ _ h.symm,
      Nat.add_zero, Finset.sum_eq_single_of_mem d hd fun d' _ hne => if_neg fun h => hne (recv_inj.mp h).2]
    exact if_congr ⟨fun h => (recv_inj.mp h).1, fun h => recv_inj.mpr ⟨h, rfl⟩⟩ rfl rfl
  rw [Finset.sum_congr rfl fun e _ => h1 e, sum_one_dev]

/-- What all the devices owe a cell in sum is the credit its device starts with. -/
theorem credit_of (g : GSem nD τ sig) {n : ℕ} (h : (∑ e : Dev nD, O₀ e g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The receive semaphores, one per step. -/
def recvSem : Fin 32 ↪ SemLoc sig :=
  ⟨fun d => .dma (recvS d), fun d d' h => Sum.inr.inj (Sum.inr.inj (csem_injective (a₁ := .inr (.inr d)) (a₂ := .inr (.inr d')) h))⟩

/-- The credits a device starts with: its barrier's and its receive cells'. -/
theorem creds (c : Dev nD) :
    (Pipeline.launchCred O₀ c : sProp 𝕄)
      ⊢ iprop(cred (tallyAt (barCell c) () 31) ∗ bigSep (pend 0) fun d => cred (tallyAt (recvCell c d) () N)) := by
  unfold Pipeline.launchCred
  rw [bigSep_univ_at _ (SemLoc.reg barS), credit_of (barCell c) (owed_bar c)]
  refine sep_mono_right ?_
  rw [← bigSep_congr (s := pend 0) fun d hd => congrArg (fun t => (cred t : sProp 𝕄)) (credit_of (recvCell c d) (owed_recv c d hd))]
  show _ ⊢ bigSep (pend 0) (fun d => (cred (tallyOn ((c : Thread nD τ), recvSem d) (launchCredit (Pipeline.owing O₀) 0 ((c : Thread nD τ), recvSem d))) : sProp 𝕄))
  rw [← bigSep_map recvSem (Φ := fun sm => (cred (tallyOn ((c : Thread nD τ), sm) (launchCredit (Pipeline.owing O₀) 0 ((c : Thread nD τ), sm))) : sProp 𝕄))]
  exact bigSep_subset fun sm h => by
    obtain ⟨d, -, rfl⟩ := Finset.mem_map.mp h
    exact Finset.mem_erase.mpr ⟨(nomatch ·), Finset.mem_univ _⟩

end Cert.A2A

end
-- ==== Proof.Launch.lean ====
/-
# The all-to-all: the kernel run on all the devices

The body's obligation on every device, the launch, and what the run leaves: the operands unchanged, the result array of
device `c` at `outAt m ρ c`, every semaphore counter zero. For any float values.
-/
module

public import proofs.«01_k».proof.Proof.Body
public import proofs.«01_k».proof.Proof.Grant
public import proofs.«01_k».proof.Proof.Gen.KernelIdeal.Points
public import Idealize.ShloMosaic.Lib.Pipeline.CollectiveSegs

@[expose] public section

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c` starts from, besides its buffers. -/
def start (c : Dev nD) : sProp 𝕄 :=
  iprop((∃ K, records m ρ K ∗ ats c ∗ payToks c) ∗ cred (tallyAt (barCell c) () 31) ∗ bigSep (pend 0) fun d => cred (tallyAt (recvCell c d) () N))
/-- The same with `y_tiles` at some contents: what the body starts with. -/
def Φ₀ (c : Dev nD) : sProp 𝕄 := iprop(start m ρ c ∗ ∃ f, ((c : Thread nD τ).loc cc0_scratch0) ↦{fullShare} f)
/-- What it ends with: its tiles, and its cells closed at zero. -/
def Φ₁ (c : Dev nD) : sProp 𝕄 :=
  iprop((((c : Thread nD τ).loc cc0_scratch0) ↦{fullShare} tilesAt m ρ c) ∗ (bigSep Finset.univ fun d => semVal (sendCell c d) 0)
    ∗ (bigSep Finset.univ fun d => semVal (recvCell c d) 0) ∗ semVal (barCell c) 0)

/-- The pipeline's data: the arrays as at launch, each staging buffer as the body leaves it, what the body holds and
owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
/-- Over the three windows. -/
theorem over_windows (Φ : Fin cfg0.W → sProp 𝕄) : bigSep Finset.univ Φ = iprop(Φ (0 : Fin 3) ∗ Φ (1 : Fin 3) ∗ Φ (2 : Fin 3)) := bigSep_W0 Φ

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A staging buffer owned whole at contents `X`. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

/-- What the body is given, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- and what it must leave. -/
def bodyPost (c : Dev nD) : sProp 𝕄 :=
  iprop(Φ₁ m ρ c ∗ (dats m ρ 0 c).owesAt () t0_0.succ
    ∗ stg c cc0_stg0_0 (xstg m ρ c) ∗ stg c cc0_stg1_0 (wstg m ρ c) ∗ stg c cc0_stg2_0 (outAt m ρ c))

/-- What a device keeps through its body: its positions on the two cells no transfer uses. -/
def spare (c : Dev nD) : sProp 𝕄 := iprop(atPos ER (sendCell c 0) 0 ∅ 0 ∗ atPos ER (recvCell c 0) 0 ∅ 0)

/-- At the end of the body: what is held is what the pipeline asks for. -/
theorem finish (K : Dev nD × CI → ℕ) (c : Dev nD) :
    iprop(records m ρ K ∗ gotPh m ρ c 31 ∗ sentAll m ρ c ∗ ownDone m ρ c ∗ inPts m ρ c ∗ barDone c ∗ spare c)
      ⊢ wp frame (wpE (defs₀ (F := F)) 𝒱₀ (c : Thread nD τ) none) Set.univ (.ret (PUnit.unit : PUnit)) (fun _ => bodyPost m ρ c) := by
  unfold spare barDone inPts sentAll
  iintro ⟨#HR, Hg, Hs, Ho, ⟨Hx, Hw⟩, Hb, HzS, HzR⟩
  ihave He := (to_end m ρ c) $$ [Hg Hs Ho]
  · isplitl [Hg]; · iexact Hg
    isplitl [Hs] <;> iassumption
  icases He with ⟨Hy, Hout, HaS, HaR, ⟨%W, HO⟩⟩
  imod (close_cells (m := m) (ρ := ρ) (K := K) c (fun d => .inr (.inl d)) (duties_send_zero m ρ c)) $$ [HzS HaS] with HS
  · isplitr; · iexact HR
    isplitl [HzS] <;> iassumption
  imod (close_cells (m := m) (ρ := ρ) (K := K) c (fun d => .inr (.inr d)) (duties_recv_zero m ρ c)) $$ [HzR HaR] with HV
  · isplitr; · iexact HR
    isplitl [HzR] <;> iassumption
  imod (close_bar (m := m) (ρ := ρ) (K := K) c) $$ [Hb] with HB
  · isplitr; · iexact HR
    iexact Hb
  rw [wp_ret]
  imodintro
  unfold bodyPost Φ₁ Dat.owesAt Pipeline.owesWithin
  rw [show (dats m ρ 0 c).owed t0_0.succ = 0 from rfl]
  isplitl [Hy HS HV HB]
  · isplitl [Hy]; · iexact Hy
    isplitl [HS]; · iexact HS
    isplitl [HV] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

omit [FloatOps F] in
/-- A device's positions, apart. -/
theorem ats_parts (c : Dev nD) :
    (ats c : sProp 𝕄) ⊢ iprop(atPos ER (barCell c) 0 ∅ 0 ∗ (atPos ER (sendCell c 0) 0 ∅ 0 ∗ sendAts c)
      ∗ (atPos ER (recvCell c 0) 0 ∅ 0 ∗ bigSep (pend 0) fun d => atPos ER (recvCell c d) 0 ∅ 0)) := by
  unfold ats sendAts
  rw [over_CI, zero_apart (fun d => atPos ER (kcell (c, .inr (.inl d))) 0 ∅ 0), zero_apart (fun d => atPos ER (kcell (c, .inr (.inr d))) 0 ∅ 0)]

omit [FloatOps F] in
/-- The tokens of the duties a device pays: those of step 0 are not used. -/
theorem pay_parts (c : Dev nD) :
    (payToks c : sProp 𝕄) ⊢ iprop((bigSep (pend 0) fun d => dutyTok ER (barCell (c + d)) 0 (-d)) ∗ xferToks c) := by
  unfold payToks xferToks
  rw [zero_apart (fun d => dutyTok ER (barCell (c + d)) 0 (-d)), zero_apart (fun d => dutyTok ER (sendCell c d) 0 0),
    zero_apart (fun d => dutyTok ER (recvCell (c + d) d) 0 0)]
  iintro ⟨⟨-, HB⟩, ⟨-, HS⟩, -, HV⟩
  isplitl [HB]; · iexact HB
  isplitl [HS] <;> iassumption

/-- The body, from what the pipeline gives it to what the pipeline asks for. -/
theorem sound_body (c : Dev nD) :
    bodyPre m ρ c ⊢ wp frame (wpE (defs₀ (F := F)) 𝒱₀ (c : Thread nD τ) none) Set.univ
      (cc0_body (F := F) xM (Memref.isWhole_whole _) wM (Memref.isWhole_whole _) oM (Memref.isWhole_whole _)
        yM (Memref.isWhole_whole _) cc0_scratch1 cc0_scratch2) (fun _ => bodyPost m ρ c) := by
  unfold bodyPre Φ₀ start
  iintro ⟨⟨⟨⟨%K, #HR, Hat, Htok⟩, HcB, HcV⟩, ⟨%fy, Hy⟩⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  ihave Hat := (ats_parts c) $$ Hat
  icases Hat with ⟨HaB, ⟨HzS, HaS⟩, HzV, HaV⟩
  ihave Htok := (pay_parts c) $$ Htok
  icases Htok with ⟨HtB, HtX⟩
  ihave Hsig := (to_sig c g2 W) $$ [HtB Hout HO]
  · isplitl [HtB]; · iexact HtB
    isplitl [Hout] <;> iassumption
  icases Hsig with ⟨Hsig, Hrow⟩
  iapply (body_run m ρ K c (Z := spare c) (finish m ρ K c))
  unfold inPts tilePh barPart later recvAts ownRow spare
  isplitr; · iexact HR
  isplitl [Hsig]; · iexact Hsig
  isplitl [Hx Hw]
  · isplitl [Hx] <;> iassumption
  isplitl [Hy]
  · iexists fy
    isplitr; · (ipureintro; exact Filled.zero m ρ c fy)
    iexact Hy
  isplitl [HcB HaB]
  · isplitl [HcB] <;> iassumption
  isplitl [Hrow]; · iexact Hrow
  isplitl [HtX]; · iexact HtX
  isplitl [HaS]; · iexact HaS
  isplitl [HcV HaV]
  · isplitl [HcV] <;> iassumption
  isplitl [HzS] <;> iassumption

set_option maxRecDepth 65536 in
theorem body_obligation (c : Dev nD) : BodyObligation (dats (F := F) m ρ 0 c) (defs₀ (F := F)) 𝒱₀ () Set.univ := fun t => by
  rw [fin_N0 t]
  rw [over_windows, over_windows]
  simp only [owns_stg]
  exact sound_body m ρ c

/-! ## The launch -/

/-- Every window is held whole. -/
theorem share_eq (c : Dev nD) (w : Fin cfg0.W) : (dats m ρ 0 c).share w = fullShare := by unfold Dat.share; split <;> rfl

/-- What the launch gives device `c` is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' known
  iintro ⟨-, Hlev, Hcr, -, ⟨%K, ⟨HI, HR⟩, Hat, Htok⟩⟩
  ihave Hc := (creds (F := F) c) $$ Hcr
  imodintro
  unfold start records
  isplitl
  · isplitr [Hc]
    · iexists K
      isplitl [HI HR Hlev]
      · isplitl [HI]; · iexact HI
        isplitl [HR] <;> iassumption
      isplitl [Hat] <;> iassumption
    · iexact Hc
  · iempintro

/-- With `y_tiles`, that is what the body starts with. -/
theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What the body ends with closes the cells and returns `y_tiles`. -/
theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexists (tilesAt m ρ c); iexact Hr

/-- The levels allow the pipeline's own waits. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

set_option maxRecDepth 65536 in
/-- Every run of the kernel's main function from a memory with zero counters ends, with every window's array at `finalA`
    and every counter zero. -/
theorem run_windows : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The one block of the first operand's window is the whole array; -/
theorem whole_block_x (f : (main_arg0 : Ref sig .tc).ty.Contents (Elt F)) (t : Fin cfg0.N) : (win0_0.blk t).view.read (Elt F) f = f :=
  Memref.read_access_unit_zero (Elt F) main_arg0 (funext fun a => by fin_cases a <;> rfl) _ f
/-- so is that of the second's, -/
theorem whole_block_w (f : (main_arg1 : Ref sig .tc).ty.Contents (Elt F)) (t : Fin cfg0.N) : (win0_1.blk t).view.read (Elt F) f = f :=
  Memref.read_access_unit_zero (Elt F) main_arg1 (funext fun a => by fin_cases a <;> rfl) _ f
/-- and that of the result's. -/
theorem whole_block_out (f : (main_v1 : Ref sig .tc).ty.Contents (Elt F)) (t : Fin cfg0.N) : (win0_2.blk t).view.read (Elt F) f = f :=
  Memref.read_access_unit_zero (Elt F) main_v1 (funext fun a => by fin_cases a <;> rfl) _ f

/-- The result array holds what the body left in its staging buffer. -/
theorem finalA_out (c : Dev nD) : finalA m ρ c (2 : Fin 3) = outAt m ρ c := by
  refine (dats m ρ 0 c).arrAt_eq_of_cover (2 : Fin 3) (outAt m ρ c) (fun t _ => ?_) fun i => ⟨t0_0, flush0_2 _, ?_⟩
  · exact (show (dats m ρ 0 c).flushed (2 : Fin 3) t = outAt m ρ c from rfl).trans (whole_block_out (outAt m ρ c) t).symm
  · show i ∈ ((View.whole main_v1).slice (win0_2.rect t0_0)).set
    rw [View.set_slice_whole, Rect.mem_set_unit]
    intro a
    fin_cases a
    · exact ⟨Nat.zero_le _, (Nat.zero_add 2048).symm ▸ (i (0 : Fin 2)).isLt⟩
    · exact ⟨Nat.zero_le _, (Nat.zero_add 64).symm ▸ (i (1 : Fin 2)).isLt⟩

/-- The run, for the claims: the operands unchanged, the result at `outAt`, the counters zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outAt m ρ c) ∧ r.2.sem = fun _ => 0) :=
  (θ_run defs _ _).mono (fun r h => ⟨fun c => ⟨
    (h.1 c (0 : Fin 3)).trans ((dats (F := F) m ρ 0 c).arrAt_in (0 : Fin 3) rfl _),
    (h.1 c (1 : Fin 3)).trans ((dats (F := F) m ρ 0 c).arrAt_in (1 : Fin 3) rfl _),
    (h.1 c (2 : Fin 3)).trans (finalA_out m ρ c)⟩, h.2⟩) (run_windows m ρ)

end Cert.A2A

end
-- ==== Proof.SameText.lean ====
/-
# The kernel at machine floats and its idealization have the same text

No operation of the kernel is rewritten for the ideal values, so the two printed programs are one. Their tables of bodies
are compared label by label.
-/
module

public import proofs.«01_k».proof.Proof.Gen.Kernel
public import proofs.«01_k».proof.Proof.Gen.KernelIdeal

@[expose] public section

namespace Cert.A2A

open Idealize.ShloMosaic

variable {F : FTy → Type} [FloatOps F]

/-- The bodies of the two programs, by label. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- The definitions of the two programs. -/
theorem defs_eq : Cert.Kernel.defs (F := F) = Cert.KernelIdeal.defs (F := F) :=
  congrArg (Pipeline.defs Cert.KernelIdeal.pcfgs) bodies_eq

end Cert.A2A
-- ==== Proof.Silu.lean ====
/-
# The epilogue at the ideal values

The kernel's epilogue is `y · logistic y`; the reference's is `y / (1 + exp (-(clip y)))`, `clip` holding `y` in
`[-60, 60]`. Over the extended reals they are one function where `-60 ≤ y ≤ 60`.
-/
module

public import Idealize.ShloMosaic.Lib.Affine
public import Idealize.ShloMosaic.Lib.IdealHost
public import Idealize.ShloMosaic.PureOps.Ideal.Laws

@[expose] public section

noncomputable section

namespace Cert.A2A

open Idealize.ShloMosaic

/-- The pattern of the f32 number 60 is the real 60. -/
theorem ofBits_sixty : Ideal.ofBits .f32 0x42700000#32 = ((60 : ℝ) : EReal) := by
  simp [Ideal.ofBits, Ideal.ieee, -EReal.coe_mul]; norm_num

/-- The pattern of the f32 number -60 is the real -60. -/
theorem ofBits_neg_sixty : Ideal.ofBits .f32 0xC2700000#32 = ((-60 : ℝ) : EReal) := by
  simp [Ideal.ofBits, Ideal.ieee, -EReal.coe_mul, -EReal.coe_neg]; norm_num

/-- The kernel's epilogue. -/
def silu (y : EReal) : EReal := y * Ideal.logistic y

/-- The reference's epilogue. -/
def clipSilu (y : EReal) : EReal := Ideal.div y (1 + Ideal.exp (-(min ((60 : ℝ) : EReal) (max ((-60 : ℝ) : EReal) y))))

/-- The reference's epilogue with its three literals as they are printed. -/
theorem clipSilu_bits (y : EReal) :
    Ideal.div y (Ideal.ofBits .f32 0x3F800000#32
      + Ideal.exp (-(min (Ideal.ofBits .f32 0x42700000#32) (max (Ideal.ofBits .f32 0xC2700000#32) y)))) = clipSilu y := by
  rw [ofBits_sixty, ofBits_neg_sixty, Ideal.ofBits_one_f32, clipSilu]

/-- `y` is in the range in which the reference's clip leaves it alone. -/
def InRange (y : EReal) : Prop := ((-60 : ℝ) : EReal) ≤ y ∧ y ≤ ((60 : ℝ) : EReal)

/-- The two epilogues agree in the range. -/
theorem silu_eq_clipSilu (y : EReal) (h : InRange y) : silu y = clipSilu y := by
  obtain ⟨h1, h2⟩ := h
  have h0 : 1 + Ideal.exp (-y) ≠ 0 := by
    have hb : y ≠ ⊥ := fun e => absurd (e ▸ h1) (by simp)
    have ht : y ≠ ⊤ := fun e => absurd (e ▸ h2) (by simp)
    lift y to ℝ using ⟨ht, hb⟩
    have : (0 : ℝ) < 1 + Real.exp (-y) := by positivity
    rw [← EReal.coe_neg, Ideal.exp_coe]
    exact_mod_cast this.ne'
  rw [silu, clipSilu, max_eq_right h1, min_eq_right h2, Ideal.logistic, Ideal.mul_one_div h0]

/-- A word built of two comparisons that is 1 says that the number is in the range. -/
theorem inRange_of_cmp (y : EReal)
    (h : IntOp.andi (Ideal.cmp .oge y (Ideal.ofBits .f32 0xC2700000#32)) (Ideal.cmp .ole y (Ideal.ofBits .f32 0x42700000#32)) = 1#1) :
    InRange y := by
  rw [ofBits_sixty, ofBits_neg_sixty] at h
  obtain ⟨h1, h2⟩ := IntOp.andi_eq_one.1 h
  have key : ∀ b : Bool, BitVec.ofBool b = 1#1 → b = true := by decide
  exact ⟨of_decide_eq_true (key _ h1), of_decide_eq_true (key _ h2)⟩

end Cert.A2A

end
-- ==== Proof.Value.lean ====
/-
# The all-to-all: the value at the ideal values

Element `(i, q)` of device `e`'s result is the epilogue of `∑ k, x (i, k) · w (k, 64 e + q)`: row `i` of `x` is row
`i % 64` of the rows device `i / 64` holds. The reference's element `(i, 64 e + q)` is its epilogue of the same sum, and
the sum is in the range of `InRange`, for the precondition says so of every device's product.
-/
module

public import proofs.«01_k».proof.Defs
public import proofs.«01_k».proof.Proof.Launch
public import proofs.«01_k».proof.Proof.Silu
public import proofs.«01_k».proof.Proof.Gen.ReferenceIdeal
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.ReduceAll

@[expose] public section

noncomputable section

namespace Cert.A2A

open Idealize.ShloMosaic Idealize.ShloMosaic.TcCoe Idealize.ShloMosaic.ValueIdx
open Idealize.SL.Sem

/-! ## The side conditions of the precondition -/

/-- The side conditions of the precondition, read of one device's blocks. -/
instance facts_pre_kernel : Cert.Pre_in_clip_range_KernelIdeal.Facts where
  bcast_S_S64x2048 := by decide
  reducesTo_S64x2048_S_d0_1 := by decide
  h_S_ := by decide
  dot_S64x2048_S2048x2048_S64x2048_1_0_0_1_n_n_wf := by decide

/-- The side conditions of the precondition, read of the whole arrays. -/
instance facts_pre_reference : Cert.Pre_in_clip_range_ReferenceIdeal.Facts where
  bcast_S_S2048x2048 := by decide
  reducesTo_S2048x2048_S_d0_1 := by decide
  h_S_ := by decide
  dot_S2048x2048_S2048x2048_S2048x2048_1_0_0_1_n_n_wf := by decide

/-! ## The product -/

/-- Entry `(r, l)` of the product of `x` and `w`. -/
def entry {M : ℕ} (x : (⟨2, ![M, 2048]⟩ : Shape).Idx → EReal) (w : (⟨2, ![2048, 2048]⟩ : Shape).Idx → EReal)
    (r : Fin M) (l : Fin 2048) : EReal := ∑ k : Fin 2048, x (ix2 r k) * w (ix2 k l)

/-- Row `r` of block `c` of the rows of `x` times `w` is row `64 c + r` of `x` times `w`. -/
theorem entry_block (x w : (⟨2, ![2048, 2048]⟩ : Shape).Idx → EReal) (c : Fin 32) (r : Fin 64) (l : Fin 2048) :
    entry (Layout.block ⟨2, ![64, 2048]⟩ ⟨2, ![2048, 2048]⟩ 0 32 c x) w r l
      = entry x w ⟨64 * c.val + r.val, by omega⟩ l := by
  refine Finset.sum_congr rfl fun k _ => congrArg (· * w (ix2 k l)) ?_
  rw [Layout.block_apply]
  refine congrArg x (funext fun a => Fin.ext ?_)
  fin_cases a
  · exact congrArg (· + r.val) (Nat.mul_comm c.val 64)
  · rfl

/-- The host's product at an index. -/
theorem host_product_apply {M : ℕ} (x : FVec Ideal ⟨2, ![M, 2048]⟩ .bf16) (w : FVec Ideal ⟨2, ![2048, 2048]⟩ .bf16) (r : Fin M)
    (l : Fin 2048) : Host.dotGeneral (F := Ideal) (DotDims.plain M 2048 2048) none x w (ix2 r l) = (entry x w r l : Ideal .f32) :=
  StackMember.dotGeneral_plain_apply none x w r l

/-- What the kernel computes of a device's rows, at an index. -/
theorem payload_apply (x : FVec Ideal ⟨2, ![64, 2048]⟩ .bf16) (w : FVec Ideal ⟨2, ![2048, 2048]⟩ .bf16) (r : Fin 64) (l : Fin 2048) :
    Cert.KernelIdeal.Gen.k0_pay2 (F := Ideal) (Cert.KernelIdeal.Gen.k0_pay1 (F := Ideal) x w) (ix2 r l) = (silu (entry x w r l) : Ideal .bf16) := by
  have h : Cert.KernelIdeal.Gen.k0_pay1 (F := Ideal) x w (ix2 r l) = (entry x w r l : Ideal .f32) := by
    unfold Cert.KernelIdeal.Gen.k0_pay1
    rw [shapeCast_self, shapeCast_self]
    refine (Ideal.matmul_plain_apply none x w _ r l).trans ?_
    show Ideal.ofBits .f32 0x00000000#32 + _ = _
    rw [Ideal.ofBits_zero_f32, zero_add]; rfl
  show silu (Cert.KernelIdeal.Gen.k0_pay1 (F := Ideal) x w (ix2 r l)) = _
  rw [h]

/-! ## The precondition -/

/-- The precondition at one device's blocks: every entry of their product is in the range. -/
theorem inRange_of_pre (x : FVec Ideal ⟨2, ![64, 2048]⟩ .bf16) (w : FVec Ideal ⟨2, ![2048, 2048]⟩ .bf16)
    (h : Cert.Pre_in_clip_range_KernelIdeal.fn (F := Ideal) x w = fun _ => 1#1) (r : Fin 64) (l : Fin 2048) :
    InRange (entry x w r l) := by
  haveI : Subsingleton Cert.Pre_in_clip_range_KernelIdeal.S_.Idx := ⟨fun a b => funext fun k => k.elim0⟩
  have h1 := Host.reduce_andi_all _ _ _ _ ix0 (congrFun h ix0) (ix2 r l)
  rw [← host_product_apply x w r l]
  exact inRange_of_cmp _ h1

/-! ## The reference -/

/-- The reference's result, of the whole arrays. -/
def refOut (x w : FVec Ideal ⟨2, ![2048, 2048]⟩ .bf16) : FVec Ideal ⟨2, ![2048, 2048]⟩ .bf16 :=
  fun i => clipSilu (entry x w (i 0) (i 1))

/-- The reference run: it terminates with `refOut` of its operands, and leaves the operands as they were. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem (c.tc.loc Cert.ReferenceIdeal.main_v9)
            = refOut (m (c.tc.loc Cert.ReferenceIdeal.main_arg0)) (m (c.tc.loc Cert.ReferenceIdeal.main_arg1))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1) := by
  refine (θ_run Cert.ReferenceIdeal.defs _ _).mono (fun r h c => ⟨(h c).1.trans (funext fun i => ?_), (h c).2⟩)
    (Cert.ReferenceIdeal.Value.run (F := Ideal) m ρ)
  obtain ⟨r, l, rfl⟩ : ∃ r l, i = ix2 r l := ⟨i 0, i 1, funext fun a => by fin_cases a <;> rfl⟩
  exact (clipSilu_bits _).trans (congrArg clipSilu (host_product_apply _ _ r l))

/-! ## The kernel's result is the reference's blocks -/

variable (m : (ℓ : Loc Cert.KernelIdeal.nD Cert.KernelIdeal.τ Cert.KernelIdeal.sig) → Buf (Elt Ideal) ℓ)
  (ρ : Dev Cert.KernelIdeal.nD → PrngReg)

/-- Device `e` ends with block `e`, by columns, of the reference's result. -/
theorem outAt_eq_block (x w : FVec Ideal ⟨2, ![2048, 2048]⟩ .bf16)
    (hpre : Cert.Pre_KernelIdeal_in_clip_range_KernelIdeal m)
    (hx : ∀ c : Dev Cert.KernelIdeal.nD, m ((c.tc : Thread Cert.KernelIdeal.nD Cert.KernelIdeal.τ).loc Cert.KernelIdeal.main_arg0)
      = Layout.block ⟨2, ![64, 2048]⟩ ⟨2, ![2048, 2048]⟩ 0 32 c x)
    (hw : ∀ c : Dev Cert.KernelIdeal.nD, m ((c.tc : Thread Cert.KernelIdeal.nD Cert.KernelIdeal.τ).loc Cert.KernelIdeal.main_arg1) = w)
    (e : Dev Cert.KernelIdeal.nD) :
    outAt m ρ e = Layout.block ⟨2, ![2048, 64]⟩ ⟨2, ![2048, 2048]⟩ 1 32 e (refOut x w) := by
  have hxs : ∀ c, xstg m ρ c = Layout.block ⟨2, ![64, 2048]⟩ ⟨2, ![2048, 2048]⟩ 0 32 c x := fun c =>
    (whole_block_x _ _).trans (hx c)
  have hws : ∀ c, wstg m ρ c = w := fun c => (whole_block_w _ _).trans (hw c)
  funext i
  have h0 : (i (0 : Fin 2)).val < 2048 := (i (0 : Fin 2)).isLt
  unfold outAt ybf
  rw [hxs, hws, payload_apply, silu_eq_clipSilu, entry_block, Layout.block_apply]
  · refine congrArg clipSilu (congr (congrArg (entry x w) (Fin.ext ?_)) (Fin.ext ?_))
    · exact Nat.div_add_mod _ 64
    · exact congrArg (· + (i (1 : Fin 2)).val) (Nat.mul_comm 64 e.val)
  · refine inRange_of_pre _ _ ?_ _ _
    have := hpre ⟨(i (0 : Fin 2)).val / 64, by show _ < 32; omega⟩
    rw [hx, hw] at this
    exact this

end Cert.A2A

end
-- ==== Proof.lean ====
/-
# The certificate

One run of the kernel for any float values (`Cert.A2A.run_main`) gives the two frames; read at the ideal values it gives
the value claim, with the reference's run (`Cert.A2A.run_reference`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.SameText
public import proofs.«01_k».proof.Proof.Value
public import Idealize.ShloMosaic.Adequacy
public import Idealize.ShloMosaic.Init

@[expose] public section

noncomputable section

namespace Cert.Proof

open Idealize.ShloMosaic Idealize.SL.Sem Cert.A2A

/-- The kernel for any float values, from any memory: it terminates with every counter at zero, its operands as they
were. -/
theorem quiet_kernel {F : FTy → Type} [FloatOps F] (m ρ) :
    θ_run (Cert.KernelIdeal.defs (F := F)) (onTc (τ := Cert.KernelIdeal.τ) (Cert.KernelIdeal.main (F := F))) ⟨m, fun _ => 0, ρ⟩
      fun r => (∀ c : Dev Cert.KernelIdeal.nD,
          r.2.mem (c.tc.loc Cert.KernelIdeal.main_arg0) = m (c.tc.loc Cert.KernelIdeal.main_arg0)
          ∧ r.2.mem (c.tc.loc Cert.KernelIdeal.main_arg1) = m (c.tc.loc Cert.KernelIdeal.main_arg1)) ∧ r.2.sem = fun _ => 0 :=
  (θ_run Cert.KernelIdeal.defs _ _).mono (fun _ h => ⟨fun c => ⟨(h.1 c).1, (h.1 c).2.1⟩, h.2⟩) (run_main m ρ)

/-- The kernel at machine floats: the two programs have the same text. -/
theorem frame_kernel : Cert.quiescent_Kernel := by
  intro m ρ _
  rw [defs_eq]
  exact quiet_kernel (F := Bits) m ρ

/-- The reference at the ideal values, from any memory: it has no semaphore, and leaves its operands as they were. -/
theorem quiet_reference (m ρ) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
          r.2.mem (c.tc.loc Cert.ReferenceIdeal.main_arg0) = m (c.tc.loc Cert.ReferenceIdeal.main_arg0)
          ∧ r.2.mem (c.tc.loc Cert.ReferenceIdeal.main_arg1) = m (c.tc.loc Cert.ReferenceIdeal.main_arg1)) ∧ r.2.sem = fun _ => 0 :=
  (θ_run Cert.ReferenceIdeal.defs _ _).mono
    (fun r h => ⟨fun c => (h c).2, Idealize.ShloMosaic.sem_eq_zero_of_no_sems (by decide) r.2⟩) (run_reference m ρ)

/-- The value claim: device `e`'s result is block `e`, by columns, of the reference's result. -/
theorem value : Cert.algebraic_KernelIdeal_ReferenceIdeal_pre_in_clip_range_KernelIdeal := by
  intro m ρ m' ρ' hpre hagree
  refine ⟨refOut (m' ((0 : Dev Cert.ReferenceIdeal.nD).tc.loc Cert.ReferenceIdeal.main_arg0))
      (m' ((0 : Dev Cert.ReferenceIdeal.nD).tc.loc Cert.ReferenceIdeal.main_arg1)), ?_, (θ_run Cert.ReferenceIdeal.defs _ _).mono (fun r h => h 0) (run_reference m' ρ')⟩
  refine (θ_run Cert.KernelIdeal.defs _ _).mono (fun r h c => ⟨?_, (h.1 c).1, (h.1 c).2.1⟩) (run_main (F := Ideal) m ρ)
  exact (h.1 c).2.2.trans (outAt_eq_block m ρ _ _ hpre (fun c => (hagree c).1) (fun c => (hagree c).2) c)

/-- Everything the certificate claims. -/
theorem claim : Cert.Claim :=
  ⟨Cert.Kernel.Gen.facts, Cert.KernelIdeal.Gen.facts, Cert.ReferenceIdeal.Gen.facts, facts_pre_kernel, facts_pre_reference,
    frame_kernel, fun m ρ _ => quiet_kernel m ρ, fun m ρ _ => quiet_kernel m ρ, fun m ρ _ => quiet_reference m ρ,
    fun m ρ _ => quiet_reference m ρ, trivial, value⟩

end Cert.Proof

end
